-- ==== Defs.lean ====
def Pre_GateupKernel (m : (ℓ : Loc Cert.GateupKernel.nD Cert.GateupKernel.τ Cert.GateupKernel.sig) → Buf (Elt Bits) ℓ) : Prop :=
  True

def Pre_GateupKernelIdeal (m : (ℓ : Loc Cert.GateupKernelIdeal.nD Cert.GateupKernelIdeal.τ Cert.GateupKernelIdeal.sig) → Buf (Elt Ideal) ℓ) : Prop :=
  True

def Pre_GateupReferenceIdeal (m : (ℓ : Loc Cert.GateupReferenceIdeal.nD Cert.GateupReferenceIdeal.τ Cert.GateupReferenceIdeal.sig) → Buf (Elt Ideal) ℓ) : Prop :=
  True

def Pre_OprojKernel (m : (ℓ : Loc Cert.OprojKernel.nD Cert.OprojKernel.τ Cert.OprojKernel.sig) → Buf (Elt Bits) ℓ) : Prop :=
  True

def Pre_OprojKernelIdeal (m : (ℓ : Loc Cert.OprojKernelIdeal.nD Cert.OprojKernelIdeal.τ Cert.OprojKernelIdeal.sig) → Buf (Elt Ideal) ℓ) : Prop :=
  True

def Pre_OprojReferenceIdeal (m : (ℓ : Loc Cert.OprojReferenceIdeal.nD Cert.OprojReferenceIdeal.τ Cert.OprojReferenceIdeal.sig) → Buf (Elt Ideal) ℓ) : Prop :=
  True

def quiescent_GateupKernel [hGateupKernel : Cert.GateupKernel.Facts] : Prop :=
  ∀ (m : (ℓ : Loc Cert.GateupKernel.nD Cert.GateupKernel.τ Cert.GateupKernel.sig) → Buf (Elt Bits) ℓ) (g : Dev Cert.GateupKernel.nD → PrngReg), Pre_GateupKernel m →
    θ_run (Cert.GateupKernel.defs (F := Bits)) (onTc (τ := Cert.GateupKernel.τ) (Cert.GateupKernel.main (F := Bits))) ⟨m, fun _ => 0, g⟩ (fun r => (∀ c : Dev Cert.GateupKernel.nD,
      r.2.mem ((c.tc : Thread Cert.GateupKernel.nD Cert.GateupKernel.τ).loc Cert.GateupKernel.main_arg0) = m ((c.tc : Thread Cert.GateupKernel.nD Cert.GateupKernel.τ).loc Cert.GateupKernel.main_arg0)
      ∧ r.2.mem ((c.tc : Thread Cert.GateupKernel.nD Cert.GateupKernel.τ).loc Cert.GateupKernel.main_arg1) = m ((c.tc : Thread Cert.GateupKernel.nD Cert.GateupKernel.τ).loc Cert.GateupKernel.main_arg1)
      ∧ r.2.mem ((c.tc : Thread Cert.GateupKernel.nD Cert.GateupKernel.τ).loc Cert.GateupKernel.main_arg2) = m ((c.tc : Thread Cert.GateupKernel.nD Cert.GateupKernel.τ).loc Cert.GateupKernel.main_arg2)
      ∧ r.2.mem ((c.tc : Thread Cert.GateupKernel.nD Cert.GateupKernel.τ).loc Cert.GateupKernel.main_arg3) = m ((c.tc : Thread Cert.GateupKernel.nD Cert.GateupKernel.τ).loc Cert.GateupKernel.main_arg3))
      ∧ r.2.sem = fun _ => 0)

def quiescent_GateupKernelIdeal [hGateupKernelIdeal : Cert.GateupKernelIdeal.Facts] : Prop :=
  ∀ (m : (ℓ : Loc Cert.GateupKernelIdeal.nD Cert.GateupKernelIdeal.τ Cert.GateupKernelIdeal.sig) → Buf (Elt Ideal) ℓ) (g : Dev Cert.GateupKernelIdeal.nD → PrngReg), Pre_GateupKernelIdeal m →
    θ_run (Cert.GateupKernelIdeal.defs (F := Ideal)) (onTc (τ := Cert.GateupKernelIdeal.τ) (Cert.GateupKernelIdeal.main (F := Ideal))) ⟨m, fun _ => 0, g⟩ (fun r => (∀ c : Dev Cert.GateupKernelIdeal.nD,
      r.2.mem ((c.tc : Thread Cert.GateupKernelIdeal.nD Cert.GateupKernelIdeal.τ).loc Cert.GateupKernelIdeal.main_arg0) = m ((c.tc : Thread Cert.GateupKernelIdeal.nD Cert.GateupKernelIdeal.τ).loc Cert.GateupKernelIdeal.main_arg0)
      ∧ r.2.mem ((c.tc : Thread Cert.GateupKernelIdeal.nD Cert.GateupKernelIdeal.τ).loc Cert.GateupKernelIdeal.main_arg1) = m ((c.tc : Thread Cert.GateupKernelIdeal.nD Cert.GateupKernelIdeal.τ).loc Cert.GateupKernelIdeal.main_arg1)
      ∧ r.2.mem ((c.tc : Thread Cert.GateupKernelIdeal.nD Cert.GateupKernelIdeal.τ).loc Cert.GateupKernelIdeal.main_arg2) = m ((c.tc : Thread Cert.GateupKernelIdeal.nD Cert.GateupKernelIdeal.τ).loc Cert.GateupKernelIdeal.main_arg2)
      ∧ r.2.mem ((c.tc : Thread Cert.GateupKernelIdeal.nD Cert.GateupKernelIdeal.τ).loc Cert.GateupKernelIdeal.main_arg3) = m ((c.tc : Thread Cert.GateupKernelIdeal.nD Cert.GateupKernelIdeal.τ).loc Cert.GateupKernelIdeal.main_arg3))
      ∧ r.2.sem = fun _ => 0)

def quiescent_GateupReferenceIdeal [hGateupReferenceIdeal : Cert.GateupReferenceIdeal.Facts] : Prop :=
  ∀ (m : (ℓ : Loc Cert.GateupReferenceIdeal.nD Cert.GateupReferenceIdeal.τ Cert.GateupReferenceIdeal.sig) → Buf (Elt Ideal) ℓ) (g : Dev Cert.GateupReferenceIdeal.nD → PrngReg), Pre_GateupReferenceIdeal m →
    θ_run (Cert.GateupReferenceIdeal.defs (F := Ideal)) (onTc (τ := Cert.GateupReferenceIdeal.τ) (Cert.GateupReferenceIdeal.main (F := Ideal))) ⟨m, fun _ => 0, g⟩ (fun r => (∀ c : Dev Cert.GateupReferenceIdeal.nD,
      r.2.mem ((c.tc : Thread Cert.GateupReferenceIdeal.nD Cert.GateupReferenceIdeal.τ).loc Cert.GateupReferenceIdeal.main_arg0) = m ((c.tc : Thread Cert.GateupReferenceIdeal.nD Cert.GateupReferenceIdeal.τ).loc Cert.GateupReferenceIdeal.main_arg0)
      ∧ r.2.mem ((c.tc : Thread Cert.GateupReferenceIdeal.nD Cert.GateupReferenceIdeal.τ).loc Cert.GateupReferenceIdeal.main_arg1) = m ((c.tc : Thread Cert.GateupReferenceIdeal.nD Cert.GateupReferenceIdeal.τ).loc Cert.GateupReferenceIdeal.main_arg1)
      ∧ r.2.mem ((c.tc : Thread Cert.GateupReferenceIdeal.nD Cert.GateupReferenceIdeal.τ).loc Cert.GateupReferenceIdeal.main_arg2) = m ((c.tc : Thread Cert.GateupReferenceIdeal.nD Cert.GateupReferenceIdeal.τ).loc Cert.GateupReferenceIdeal.main_arg2)
      ∧ r.2.mem ((c.tc : Thread Cert.GateupReferenceIdeal.nD Cert.GateupReferenceIdeal.τ).loc Cert.GateupReferenceIdeal.main_arg3) = m ((c.tc : Thread Cert.GateupReferenceIdeal.nD Cert.GateupReferenceIdeal.τ).loc Cert.GateupReferenceIdeal.main_arg3))
      ∧ r.2.sem = fun _ => 0)

def quiescent_OprojKernel [hOprojKernel : Cert.OprojKernel.Facts] : Prop :=
  ∀ (m : (ℓ : Loc Cert.OprojKernel.nD Cert.OprojKernel.τ Cert.OprojKernel.sig) → Buf (Elt Bits) ℓ) (g : Dev Cert.OprojKernel.nD → PrngReg), Pre_OprojKernel m →
    θ_run (Cert.OprojKernel.defs (F := Bits)) (onTc (τ := Cert.OprojKernel.τ) (Cert.OprojKernel.main (F := Bits))) ⟨m, fun _ => 0, g⟩ (fun r => (∀ c : Dev Cert.OprojKernel.nD,
      r.2.mem ((c.tc : Thread Cert.OprojKernel.nD Cert.OprojKernel.τ).loc Cert.OprojKernel.main_arg0) = m ((c.tc : Thread Cert.OprojKernel.nD Cert.OprojKernel.τ).loc Cert.OprojKernel.main_arg0)
      ∧ r.2.mem ((c.tc : Thread Cert.OprojKernel.nD Cert.OprojKernel.τ).loc Cert.OprojKernel.main_arg1) = m ((c.tc : Thread Cert.OprojKernel.nD Cert.OprojKernel.τ).loc Cert.OprojKernel.main_arg1)
      ∧ r.2.mem ((c.tc : Thread Cert.OprojKernel.nD Cert.OprojKernel.τ).loc Cert.OprojKernel.main_arg2) = m ((c.tc : Thread Cert.OprojKernel.nD Cert.OprojKernel.τ).loc Cert.OprojKernel.main_arg2)
      ∧ r.2.mem ((c.tc : Thread Cert.OprojKernel.nD Cert.OprojKernel.τ).loc Cert.OprojKernel.main_arg3) = m ((c.tc : Thread Cert.OprojKernel.nD Cert.OprojKernel.τ).loc Cert.OprojKernel.main_arg3)
      ∧ r.2.mem ((c.tc : Thread Cert.OprojKernel.nD Cert.OprojKernel.τ).loc Cert.OprojKernel.main_arg4) = m ((c.tc : Thread Cert.OprojKernel.nD Cert.OprojKernel.τ).loc Cert.OprojKernel.main_arg4)
      ∧ r.2.mem ((c.tc : Thread Cert.OprojKernel.nD Cert.OprojKernel.τ).loc Cert.OprojKernel.main_arg5) = m ((c.tc : Thread Cert.OprojKernel.nD Cert.OprojKernel.τ).loc Cert.OprojKernel.main_arg5))
      ∧ r.2.sem = fun _ => 0)

def quiescent_OprojKernelIdeal [hOprojKernelIdeal : Cert.OprojKernelIdeal.Facts] : Prop :=
  ∀ (m : (ℓ : Loc Cert.OprojKernelIdeal.nD Cert.OprojKernelIdeal.τ Cert.OprojKernelIdeal.sig) → Buf (Elt Ideal) ℓ) (g : Dev Cert.OprojKernelIdeal.nD → PrngReg), Pre_OprojKernelIdeal m →
    θ_run (Cert.OprojKernelIdeal.defs (F := Ideal)) (onTc (τ := Cert.OprojKernelIdeal.τ) (Cert.OprojKernelIdeal.main (F := Ideal))) ⟨m, fun _ => 0, g⟩ (fun r => (∀ c : Dev Cert.OprojKernelIdeal.nD,
      r.2.mem ((c.tc : Thread Cert.OprojKernelIdeal.nD Cert.OprojKernelIdeal.τ).loc Cert.OprojKernelIdeal.main_arg0) = m ((c.tc : Thread Cert.OprojKernelIdeal.nD Cert.OprojKernelIdeal.τ).loc Cert.OprojKernelIdeal.main_arg0)
      ∧ r.2.mem ((c.tc : Thread Cert.OprojKernelIdeal.nD Cert.OprojKernelIdeal.τ).loc Cert.OprojKernelIdeal.main_arg1) = m ((c.tc : Thread Cert.OprojKernelIdeal.nD Cert.OprojKernelIdeal.τ).loc Cert.OprojKernelIdeal.main_arg1)
      ∧ r.2.mem ((c.tc : Thread Cert.OprojKernelIdeal.nD Cert.OprojKernelIdeal.τ).loc Cert.OprojKernelIdeal.main_arg2) = m ((c.tc : Thread Cert.OprojKernelIdeal.nD Cert.OprojKernelIdeal.τ).loc Cert.OprojKernelIdeal.main_arg2)
      ∧ r.2.mem ((c.tc : Thread Cert.OprojKernelIdeal.nD Cert.OprojKernelIdeal.τ).loc Cert.OprojKernelIdeal.main_arg3) = m ((c.tc : Thread Cert.OprojKernelIdeal.nD Cert.OprojKernelIdeal.τ).loc Cert.OprojKernelIdeal.main_arg3)
      ∧ r.2.mem ((c.tc : Thread Cert.OprojKernelIdeal.nD Cert.OprojKernelIdeal.τ).loc Cert.OprojKernelIdeal.main_arg4) = m ((c.tc : Thread Cert.OprojKernelIdeal.nD Cert.OprojKernelIdeal.τ).loc Cert.OprojKernelIdeal.main_arg4)
      ∧ r.2.mem ((c.tc : Thread Cert.OprojKernelIdeal.nD Cert.OprojKernelIdeal.τ).loc Cert.OprojKernelIdeal.main_arg5) = m ((c.tc : Thread Cert.OprojKernelIdeal.nD Cert.OprojKernelIdeal.τ).loc Cert.OprojKernelIdeal.main_arg5))
      ∧ r.2.sem = fun _ => 0)

def quiescent_OprojReferenceIdeal [hOprojReferenceIdeal : Cert.OprojReferenceIdeal.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2)
      ∧ r.2.mem ((c.tc : Thread Cert.OprojReferenceIdeal.nD Cert.OprojReferenceIdeal.τ).loc Cert.OprojReferenceIdeal.main_arg3) = m ((c.tc : Thread Cert.OprojReferenceIdeal.nD Cert.OprojReferenceIdeal.τ).loc Cert.OprojReferenceIdeal.main_arg3)
      ∧ r.2.mem ((c.tc : Thread Cert.OprojReferenceIdeal.nD Cert.OprojReferenceIdeal.τ).loc Cert.OprojReferenceIdeal.main_arg4) = m ((c.tc : Thread Cert.OprojReferenceIdeal.nD Cert.OprojReferenceIdeal.τ).loc Cert.OprojReferenceIdeal.main_arg4)
      ∧ r.2.mem ((c.tc : Thread Cert.OprojReferenceIdeal.nD Cert.OprojReferenceIdeal.τ).loc Cert.OprojReferenceIdeal.main_arg5) = m ((c.tc : Thread Cert.OprojReferenceIdeal.nD Cert.OprojReferenceIdeal.τ).loc Cert.OprojReferenceIdeal.main_arg5))
      ∧ r.2.sem = fun _ => 0)

def preserves_GateupKernel_GateupKernelIdeal : Prop :=
  True

def algebraic_GateupKernelIdeal_GateupReferenceIdeal [hGateupKernelIdeal : Cert.GateupKernelIdeal.Facts] [hGateupReferenceIdeal : Cert.GateupReferenceIdeal.Facts] : Prop :=
  ∀ (m : (ℓ : Loc Cert.GateupKernelIdeal.nD Cert.GateupKernelIdeal.τ Cert.GateupKernelIdeal.sig) → Buf (Elt Ideal) ℓ) (g : Dev Cert.GateupKernelIdeal.nD → PrngReg)
    (m' : (ℓ : Loc Cert.GateupReferenceIdeal.nD Cert.GateupReferenceIdeal.τ Cert.GateupReferenceIdeal.sig) → Buf (Elt Ideal) ℓ) (g' : Dev Cert.GateupReferenceIdeal.nD → PrngReg), Pre_GateupKernelIdeal m →
    (∀ c : Dev Cert.GateupKernelIdeal.nD,
      m' ((c.tc : Thread Cert.GateupReferenceIdeal.nD Cert.GateupReferenceIdeal.τ).loc Cert.GateupReferenceIdeal.main_arg0) = m ((c.tc : Thread Cert.GateupKernelIdeal.nD Cert.GateupKernelIdeal.τ).loc Cert.GateupKernelIdeal.main_arg0)
      ∧ m' ((c.tc : Thread Cert.GateupReferenceIdeal.nD Cert.GateupReferenceIdeal.τ).loc Cert.GateupReferenceIdeal.main_arg1) = m ((c.tc : Thread Cert.GateupKernelIdeal.nD Cert.GateupKernelIdeal.τ).loc Cert.GateupKernelIdeal.main_arg1)
      ∧ m' ((c.tc : Thread Cert.GateupReferenceIdeal.nD Cert.GateupReferenceIdeal.τ).loc Cert.GateupReferenceIdeal.main_arg2) = m ((c.tc : Thread Cert.GateupKernelIdeal.nD Cert.GateupKernelIdeal.τ).loc Cert.GateupKernelIdeal.main_arg2)
      ∧ m' ((c.tc : Thread Cert.GateupReferenceIdeal.nD Cert.GateupReferenceIdeal.τ).loc Cert.GateupReferenceIdeal.main_arg3) = m ((c.tc : Thread Cert.GateupKernelIdeal.nD Cert.GateupKernelIdeal.τ).loc Cert.GateupKernelIdeal.main_arg3)) →
    ∃ (v0 : (c : Dev Cert.GateupKernelIdeal.nD) → Buf (Elt Ideal) ((c.tc : Thread Cert.GateupKernelIdeal.nD Cert.GateupKernelIdeal.τ).loc Cert.GateupKernelIdeal.main_v0_0)) (v1 : (c : Dev Cert.GateupKernelIdeal.nD) → Buf (Elt Ideal) ((c.tc : Thread Cert.GateupKernelIdeal.nD Cert.GateupKernelIdeal.τ).loc Cert.GateupKernelIdeal.main_v0_1)),
      θ_run (Cert.GateupKernelIdeal.defs (F := Ideal)) (onTc (τ := Cert.GateupKernelIdeal.τ) (Cert.GateupKernelIdeal.main (F := Ideal))) ⟨m, fun _ => 0, g⟩ (fun r => ∀ c : Dev Cert.GateupKernelIdeal.nD,
          r.2.mem ((c.tc : Thread Cert.GateupKernelIdeal.nD Cert.GateupKernelIdeal.τ).loc Cert.GateupKernelIdeal.main_v0_0) = v0 c
          ∧ r.2.mem ((c.tc : Thread Cert.GateupKernelIdeal.nD Cert.GateupKernelIdeal.τ).loc Cert.GateupKernelIdeal.main_v0_1) = v1 c
          ∧ r.2.mem ((c.tc : Thread Cert.GateupKernelIdeal.nD Cert.GateupKernelIdeal.τ).loc Cert.GateupKernelIdeal.main_arg0) = m ((c.tc : Thread Cert.GateupKernelIdeal.nD Cert.GateupKernelIdeal.τ).loc Cert.GateupKernelIdeal.main_arg0)
          ∧ r.2.mem ((c.tc : Thread Cert.GateupKernelIdeal.nD Cert.GateupKernelIdeal.τ).loc Cert.GateupKernelIdeal.main_arg1) = m ((c.tc : Thread Cert.GateupKernelIdeal.nD Cert.GateupKernelIdeal.τ).loc Cert.GateupKernelIdeal.main_arg1)
          ∧ r.2.mem ((c.tc : Thread Cert.GateupKernelIdeal.nD Cert.GateupKernelIdeal.τ).loc Cert.GateupKernelIdeal.main_arg2) = m ((c.tc : Thread Cert.GateupKernelIdeal.nD Cert.GateupKernelIdeal.τ).loc Cert.GateupKernelIdeal.main_arg2)
          ∧ r.2.mem ((c.tc : Thread Cert.GateupKernelIdeal.nD Cert.GateupKernelIdeal.τ).loc Cert.GateupKernelIdeal.main_arg3) = m ((c.tc : Thread Cert.GateupKernelIdeal.nD Cert.GateupKernelIdeal.τ).loc Cert.GateupKernelIdeal.main_arg3))
      ∧ θ_run (Cert.GateupReferenceIdeal.defs (F := Ideal)) (onTc (τ := Cert.GateupReferenceIdeal.τ) (Cert.GateupReferenceIdeal.main (F := Ideal))) ⟨m', fun _ => 0, g'⟩ (fun r => ∀ c : Dev Cert.GateupReferenceIdeal.nD,
          r.2.mem ((c.tc : Thread Cert.GateupReferenceIdeal.nD Cert.GateupReferenceIdeal.τ).loc Cert.GateupReferenceIdeal.main_v0_0) = v0 c
          ∧ r.2.mem ((c.tc : Thread Cert.GateupReferenceIdeal.nD Cert.GateupReferenceIdeal.τ).loc Cert.GateupReferenceIdeal.main_v0_1) = v1 c
          ∧ r.2.mem ((c.tc : Thread Cert.GateupReferenceIdeal.nD Cert.GateupReferenceIdeal.τ).loc Cert.GateupReferenceIdeal.main_arg0) = m' ((c.tc : Thread Cert.GateupReferenceIdeal.nD Cert.GateupReferenceIdeal.τ).loc Cert.GateupReferenceIdeal.main_arg0)
          ∧ r.2.mem ((c.tc : Thread Cert.GateupReferenceIdeal.nD Cert.GateupReferenceIdeal.τ).loc Cert.GateupReferenceIdeal.main_arg1) = m' ((c.tc : Thread Cert.GateupReferenceIdeal.nD Cert.GateupReferenceIdeal.τ).loc Cert.GateupReferenceIdeal.main_arg1)
          ∧ r.2.mem ((c.tc : Thread Cert.GateupReferenceIdeal.nD Cert.GateupReferenceIdeal.τ).loc Cert.GateupReferenceIdeal.main_arg2) = m' ((c.tc : Thread Cert.GateupReferenceIdeal.nD Cert.GateupReferenceIdeal.τ).loc Cert.GateupReferenceIdeal.main_arg2)
          ∧ r.2.mem ((c.tc : Thread Cert.GateupReferenceIdeal.nD Cert.GateupReferenceIdeal.τ).loc Cert.GateupReferenceIdeal.main_arg3) = m' ((c.tc : Thread Cert.GateupReferenceIdeal.nD Cert.GateupReferenceIdeal.τ).loc Cert.GateupReferenceIdeal.main_arg3))

def preserves_OprojKernel_OprojKernelIdeal : Prop :=
  True

def algebraic_OprojKernelIdeal_OprojReferenceIdeal [hOprojKernelIdeal : Cert.OprojKernelIdeal.Facts] [hOprojReferenceIdeal : Cert.OprojReferenceIdeal.Facts] : Prop :=
  ∀ (m : (ℓ : Loc Cert.OprojKernelIdeal.nD Cert.OprojKernelIdeal.τ Cert.OprojKernelIdeal.sig) → Buf (Elt Ideal) ℓ) (g : Dev Cert.OprojKernelIdeal.nD → PrngReg)
    (m' : (ℓ : Loc Cert.OprojReferenceIdeal.nD Cert.OprojReferenceIdeal.τ Cert.OprojReferenceIdeal.sig) → Buf (Elt Ideal) ℓ) (g' : Dev Cert.OprojReferenceIdeal.nD → PrngReg), Pre_OprojKernelIdeal m →
    (∀ c : Dev Cert.OprojKernelIdeal.nD,
      m' ((c.tc : Thread Cert.OprojReferenceIdeal.nD Cert.OprojReferenceIdeal.τ).loc Cert.OprojReferenceIdeal.main_arg0) = m ((c.tc : Thread Cert.OprojKernelIdeal.nD Cert.OprojKernelIdeal.τ).loc Cert.OprojKernelIdeal.main_arg0)
      ∧ m' ((c.tc : Thread Cert.OprojReferenceIdeal.nD Cert.OprojReferenceIdeal.τ).loc Cert.OprojReferenceIdeal.main_arg1) = m ((c.tc : Thread Cert.OprojKernelIdeal.nD Cert.OprojKernelIdeal.τ).loc Cert.OprojKernelIdeal.main_arg1)
      ∧ m' ((c.tc : Thread Cert.OprojReferenceIdeal.nD Cert.OprojReferenceIdeal.τ).loc Cert.OprojReferenceIdeal.main_arg2) = m ((c.tc : Thread Cert.OprojKernelIdeal.nD Cert.OprojKernelIdeal.τ).loc Cert.OprojKernelIdeal.main_arg2)
      ∧ m' ((c.tc : Thread Cert.OprojReferenceIdeal.nD Cert.OprojReferenceIdeal.τ).loc Cert.OprojReferenceIdeal.main_arg3) = m ((c.tc : Thread Cert.OprojKernelIdeal.nD Cert.OprojKernelIdeal.τ).loc Cert.OprojKernelIdeal.main_arg3)
      ∧ m' ((c.tc : Thread Cert.OprojReferenceIdeal.nD Cert.OprojReferenceIdeal.τ).loc Cert.OprojReferenceIdeal.main_arg4) = m ((c.tc : Thread Cert.OprojKernelIdeal.nD Cert.OprojKernelIdeal.τ).loc Cert.OprojKernelIdeal.main_arg4)
      ∧ m' ((c.tc : Thread Cert.OprojReferenceIdeal.nD Cert.OprojReferenceIdeal.τ).loc Cert.OprojReferenceIdeal.main_arg5) = m ((c.tc : Thread Cert.OprojKernelIdeal.nD Cert.OprojKernelIdeal.τ).loc Cert.OprojKernelIdeal.main_arg5)) →
    ∃ (v0 : (c : Dev Cert.OprojKernelIdeal.nD) → Buf (Elt Ideal) ((c.tc : Thread Cert.OprojKernelIdeal.nD Cert.OprojKernelIdeal.τ).loc Cert.OprojKernelIdeal.main_v0_0)) (v1 : (c : Dev Cert.OprojKernelIdeal.nD) → Buf (Elt Ideal) ((c.tc : Thread Cert.OprojKernelIdeal.nD Cert.OprojKernelIdeal.τ).loc Cert.OprojKernelIdeal.main_v0_1)) (v2 : (c : Dev Cert.OprojKernelIdeal.nD) → Buf (Elt Ideal) ((c.tc : Thread Cert.OprojKernelIdeal.nD Cert.OprojKernelIdeal.τ).loc Cert.OprojKernelIdeal.main_v0_2)) (v3 : (c : Dev Cert.OprojKernelIdeal.nD) → Buf (Elt Ideal) ((c.tc : Thread Cert.OprojKernelIdeal.nD Cert.OprojKernelIdeal.τ).loc Cert.OprojKernelIdeal.main_v0_3)),
      θ_run (Cert.OprojKernelIdeal.defs (F := Ideal)) (onTc (τ := Cert.OprojKernelIdeal.τ) (Cert.OprojKernelIdeal.main (F := Ideal))) ⟨m, fun _ => 0, g⟩ (fun r => ∀ c : Dev Cert.OprojKernelIdeal.nD,
          r.2.mem ((c.tc : Thread Cert.OprojKernelIdeal.nD Cert.OprojKernelIdeal.τ).loc Cert.OprojKernelIdeal.main_v0_0) = v0 c
          ∧ r.2.mem ((c.tc : Thread Cert.OprojKernelIdeal.nD Cert.OprojKernelIdeal.τ).loc Cert.OprojKernelIdeal.main_v0_1) = v1 c
          ∧ r.2.mem ((c.tc : Thread Cert.OprojKernelIdeal.nD Cert.OprojKernelIdeal.τ).loc Cert.OprojKernelIdeal.main_v0_2) = v2 c
          ∧ r.2.mem ((c.tc : Thread Cert.OprojKernelIdeal.nD Cert.OprojKernelIdeal.τ).loc Cert.OprojKernelIdeal.main_v0_3) = v3 c
          ∧ r.2.mem ((c.tc : Thread Cert.OprojKernelIdeal.nD Cert.OprojKernelIdeal.τ).loc Cert.OprojKernelIdeal.main_arg0) = m ((c.tc : Thread Cert.OprojKernelIdeal.nD Cert.OprojKernelIdeal.τ).loc Cert.OprojKernelIdeal.main_arg0)
          ∧ r.2.mem ((c.tc : Thread Cert.OprojKernelIdeal.nD Cert.OprojKernelIdeal.τ).loc Cert.OprojKernelIdeal.main_arg1) = m ((c.tc : Thread Cert.OprojKernelIdeal.nD Cert.OprojKernelIdeal.τ).loc Cert.OprojKernelIdeal.main_arg1)
          ∧ r.2.mem ((c.tc : Thread Cert.OprojKernelIdeal.nD Cert.OprojKernelIdeal.τ).loc Cert.OprojKernelIdeal.main_arg2) = m ((c.tc : Thread Cert.OprojKernelIdeal.nD Cert.OprojKernelIdeal.τ).loc Cert.OprojKernelIdeal.main_arg2)
          ∧ r.2.mem ((c.tc : Thread Cert.OprojKernelIdeal.nD Cert.OprojKernelIdeal.τ).loc Cert.OprojKernelIdeal.main_arg3) = m ((c.tc : Thread Cert.OprojKernelIdeal.nD Cert.OprojKernelIdeal.τ).loc Cert.OprojKernelIdeal.main_arg3)
          ∧ r.2.mem ((c.tc : Thread Cert.OprojKernelIdeal.nD Cert.OprojKernelIdeal.τ).loc Cert.OprojKernelIdeal.main_arg4) = m ((c.tc : Thread Cert.OprojKernelIdeal.nD Cert.OprojKernelIdeal.τ).loc Cert.OprojKernelIdeal.main_arg4)
          ∧ r.2.mem ((c.tc : Thread Cert.OprojKernelIdeal.nD Cert.OprojKernelIdeal.τ).loc Cert.OprojKernelIdeal.main_arg5) = m ((c.tc : Thread Cert.OprojKernelIdeal.nD Cert.OprojKernelIdeal.τ).loc Cert.OprojKernelIdeal.main_arg5))
      ∧ θ_run (Cert.OprojReferenceIdeal.defs (F := Ideal)) (onTc (τ := Cert.OprojReferenceIdeal.τ) (Cert.OprojReferenceIdeal.main (F := Ideal))) ⟨m', fun _ => 0, g'⟩ (fun r => ∀ c : Dev Cert.OprojReferenceIdeal.nD,
          r.2.mem ((c.tc : Thread Cert.OprojReferenceIdeal.nD Cert.OprojReferenceIdeal.τ).loc Cert.OprojReferenceIdeal.main_v0_0) = v0 c
          ∧ r.2.mem ((c.tc : Thread Cert.OprojReferenceIdeal.nD Cert.OprojReferenceIdeal.τ).loc Cert.OprojReferenceIdeal.main_v0_1) = v1 c
          ∧ r.2.mem ((c.tc : Thread Cert.OprojReferenceIdeal.nD Cert.OprojReferenceIdeal.τ).loc Cert.OprojReferenceIdeal.main_v0_2) = v2 c
          ∧ r.2.mem ((c.tc : Thread Cert.OprojReferenceIdeal.nD Cert.OprojReferenceIdeal.τ).loc Cert.OprojReferenceIdeal.main_v0_3) = v3 c
          ∧ r.2.mem ((c.tc : Thread Cert.OprojReferenceIdeal.nD Cert.OprojReferenceIdeal.τ).loc Cert.OprojReferenceIdeal.main_arg0) = m' ((c.tc : Thread Cert.OprojReferenceIdeal.nD Cert.OprojReferenceIdeal.τ).loc Cert.OprojReferenceIdeal.main_arg0)
          ∧ r.2.mem ((c.tc : Thread Cert.OprojReferenceIdeal.nD Cert.OprojReferenceIdeal.τ).loc Cert.OprojReferenceIdeal.main_arg1) = m' ((c.tc : Thread Cert.OprojReferenceIdeal.nD Cert.OprojReferenceIdeal.τ).loc Cert.OprojReferenceIdeal.main_arg1)
          ∧ r.2.mem ((c.tc : Thread Cert.OprojReferenceIdeal.nD Cert.OprojReferenceIdeal.τ).loc Cert.OprojReferenceIdeal.main_arg2) = m' ((c.tc : Thread Cert.OprojReferenceIdeal.nD Cert.OprojReferenceIdeal.τ).loc Cert.OprojReferenceIdeal.main_arg2)
          ∧ r.2.mem ((c.tc : Thread Cert.OprojReferenceIdeal.nD Cert.OprojReferenceIdeal.τ).loc Cert.OprojReferenceIdeal.main_arg3) = m' ((c.tc : Thread Cert.OprojReferenceIdeal.nD Cert.OprojReferenceIdeal.τ).loc Cert.OprojReferenceIdeal.main_arg3)
          ∧ r.2.mem ((c.tc : Thread Cert.OprojReferenceIdeal.nD Cert.OprojReferenceIdeal.τ).loc Cert.OprojReferenceIdeal.main_arg4) = m' ((c.tc : Thread Cert.OprojReferenceIdeal.nD Cert.OprojReferenceIdeal.τ).loc Cert.OprojReferenceIdeal.main_arg4)
          ∧ r.2.mem ((c.tc : Thread Cert.OprojReferenceIdeal.nD Cert.OprojReferenceIdeal.τ).loc Cert.OprojReferenceIdeal.main_arg5) = m' ((c.tc : Thread Cert.OprojReferenceIdeal.nD Cert.OprojReferenceIdeal.τ).loc Cert.OprojReferenceIdeal.main_arg5))

def Claim : Prop :=
  ∃ (hGateupKernel : Cert.GateupKernel.Facts) (hGateupKernelIdeal : Cert.GateupKernelIdeal.Facts) (hGateupReferenceIdeal : Cert.GateupReferenceIdeal.Facts) (hOprojKernel : Cert.OprojKernel.Facts) (hOprojKernelIdeal : Cert.OprojKernelIdeal.Facts) (hOprojReferenceIdeal : Cert.OprojReferenceIdeal.Facts),
    quiescent_GateupKernel (hGateupKernel := hGateupKernel)
    ∧ quiescent_GateupKernelIdeal (hGateupKernelIdeal := hGateupKernelIdeal)
    ∧ quiescent_GateupReferenceIdeal (hGateupReferenceIdeal := hGateupReferenceIdeal)
    ∧ quiescent_OprojKernel (hOprojKernel := hOprojKernel)
    ∧ quiescent_OprojKernelIdeal (hOprojKernelIdeal := hOprojKernelIdeal)
    ∧ quiescent_OprojReferenceIdeal (hOprojReferenceIdeal := hOprojReferenceIdeal)
    ∧ preserves_GateupKernel_GateupKernelIdeal
    ∧ algebraic_GateupKernelIdeal_GateupReferenceIdeal (hGateupKernelIdeal := hGateupKernelIdeal) (hGateupReferenceIdeal := hGateupReferenceIdeal)
    ∧ preserves_OprojKernel_OprojKernelIdeal
    ∧ algebraic_OprojKernelIdeal_OprojReferenceIdeal (hOprojKernelIdeal := hOprojKernelIdeal) (hOprojReferenceIdeal := hOprojReferenceIdeal)
-- ==== GateupKernel.lean ====
abbrev S1920x3072 : Shape := ⟨2, ![1920, 3072]⟩
abbrev S1920x1 : Shape := ⟨2, ![1920, 1]⟩
abbrev S3072x8192 : Shape := ⟨2, ![3072, 8192]⟩
abbrev S96x16384 : Shape := ⟨2, ![96, 16384]⟩
abbrev S1920x8192 : Shape := ⟨2, ![1920, 8192]⟩
abbrev S3072x256 : Shape := ⟨2, ![3072, 256]⟩
abbrev S96x256 : Shape := ⟨2, ![96, 256]⟩
abbrev S1920x256 : Shape := ⟨2, ![1920, 256]⟩
abbrev S1920x128 : Shape := ⟨2, ![1920, 128]⟩
abbrev S32x256 : Shape := ⟨2, ![32, 256]⟩
abbrev S8x256 : Shape := ⟨2, ![8, 256]⟩
abbrev S1x256 : Shape := ⟨2, ![1, 256]⟩
abbrev S384x1 : Shape := ⟨2, ![384, 1]⟩
abbrev S384x3072 : Shape := ⟨2, ![384, 3072]⟩
abbrev S384x256 : Shape := ⟨2, ![384, 256]⟩
abbrev S384x128 : Shape := ⟨2, ![384, 128]⟩
abbrev S1920 : Shape := ⟨1, ![1920]⟩

abbrev nBuf : Space → Nat
  | .hbm => 6
  | .vmem => 15
  | .smem => 0
  | _ => 0

abbrev bufTy : (tb : Table) → Fin (tcTables nBuf tb) → BufTy
  | .hbm, ⟨0, _⟩ => ⟨S1920x3072, .i8⟩
  | .hbm, ⟨1, _⟩ => ⟨S1920x1, .f32⟩
  | .hbm, ⟨2, _⟩ => ⟨S3072x8192, .i8⟩
  | .hbm, ⟨3, _⟩ => ⟨S96x16384, .f32⟩
  | .hbm, ⟨4, _⟩ => ⟨S1920x8192, .f32⟩
  | .hbm, ⟨5, _⟩ => ⟨S1920x1, .f32⟩
  | .local _ .vmem, ⟨0, _⟩ => ⟨S1920x3072, .i8⟩
  | .local _ .vmem, ⟨1, _⟩ => ⟨S1920x1, .f32⟩
  | .local _ .vmem, ⟨2, _⟩ => ⟨S3072x256, .i8⟩
  | .local _ .vmem, ⟨3, _⟩ => ⟨S3072x256, .i8⟩
  | .local _ .vmem, ⟨4, _⟩ => ⟨S96x256, .f32⟩
  | .local _ .vmem, ⟨5, _⟩ => ⟨S96x256, .f32⟩
  | .local _ .vmem, ⟨6, _⟩ => ⟨S96x256, .f32⟩
  | .local _ .vmem, ⟨7, _⟩ => ⟨S96x256, .f32⟩
  | .local _ .vmem, ⟨8, _⟩ => ⟨S1920x256, .f32⟩
  | .local _ .vmem, ⟨9, _⟩ => ⟨S1920x256, .f32⟩
  | .local _ .vmem, ⟨10, _⟩ => ⟨S1920x1, .f32⟩
  | .local _ .vmem, ⟨11, _⟩ => ⟨S1920x3072, .bf16⟩
  | .local _ .vmem, ⟨12, _⟩ => ⟨S3072x256, .bf16⟩
  | .local _ .vmem, ⟨13, _⟩ => ⟨S3072x256, .bf16⟩
  | .local _ .vmem, ⟨14, _⟩ => ⟨S1920x128, .f32⟩
  | _, _ => ⟨S1920x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v3190 : BitVec 1 := Scalar.cmpi .eq arg0 c31_i32
  let v3191 : BitVec 32 := Scalar.extui v3190
  let c0_i32_1329 : BitVec 32 := 0#32
  let v3192 : BitVec 1 := Scalar.cmpi .ne v3191 c0_i32_1329
  v3192

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1920x3072 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1920x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3072x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1920x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1920x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GateupReferenceIdeal.lean ====
abbrev S1920x3072 : Shape := ⟨2, ![1920, 3072]⟩
abbrev S1920x1 : Shape := ⟨2, ![1920, 1]⟩
abbrev S3072x8192 : Shape := ⟨2, ![3072, 8192]⟩
abbrev S96x16384 : Shape := ⟨2, ![96, 16384]⟩
abbrev S1920x8192 : Shape := ⟨2, ![1920, 8192]⟩
abbrev S96x8192 : Shape := ⟨2, ![96, 8192]⟩
abbrev S96x32x8192 : Shape := ⟨3, ![96, 32, 8192]⟩
abbrev S96x1x8192 : Shape := ⟨3, ![96, 1, 8192]⟩
abbrev S1920 : Shape := ⟨1, ![1920]⟩

abbrev nBuf : Space → Nat
  | .hbm => 6
  | .vmem => 6
  | .smem => 0
  | _ => 0

abbrev bufTy : (tb : Table) → Fin (tcTables nBuf tb) → BufTy
  | .hbm, ⟨0, _⟩ => ⟨S1920x3072, .i8⟩
  | .hbm, ⟨1, _⟩ => ⟨S1920x1, .f32⟩
  | .hbm, ⟨2, _⟩ => ⟨S3072x8192, .i8⟩
  | .hbm, ⟨3, _⟩ => ⟨S96x16384, .f32⟩
  | .hbm, ⟨4, _⟩ => ⟨S1920x8192, .f32⟩
  | .hbm, ⟨5, _⟩ => ⟨S1920x1, .f32⟩
  | .local _ .vmem, ⟨0, _⟩ => ⟨S1920x3072, .i8⟩
  | .local _ .vmem, ⟨1, _⟩ => ⟨S1920x1, .f32⟩
  | .local _ .vmem, ⟨2, _⟩ => ⟨S3072x8192, .i8⟩
  | .local _ .vmem, ⟨3, _⟩ => ⟨S96x16384, .f32⟩
  | .local _ .vmem, ⟨4, _⟩ => ⟨S1920x8192, .f32⟩
  | .local _ .vmem, ⟨5, _⟩ => ⟨S1920x1, .f32⟩
  | _, _ => ⟨S1920x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1920x3072 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x8192 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== OprojKernel.lean ====
abbrev S1920x3072 : Shape := ⟨2, ![1920, 3072]⟩
abbrev S1920x1 : Shape := ⟨2, ![1920, 1]⟩
abbrev S1x3072 : Shape := ⟨2, ![1, 3072]⟩
abbrev S3072x1536 : Shape := ⟨2, ![3072, 1536]⟩
abbrev S96x3072 : Shape := ⟨2, ![96, 3072]⟩
abbrev S5x1x384 : Shape := ⟨3, ![5, 1, 384]⟩
abbrev S384x3072 : Shape := ⟨2, ![384, 3072]⟩
abbrev S384x1 : Shape := ⟨2, ![384, 1]⟩
abbrev S1x1x384 : Shape := ⟨3, ![1, 1, 384]⟩
abbrev S3072x512 : Shape := ⟨2, ![3072, 512]⟩
abbrev S32x512 : Shape := ⟨2, ![32, 512]⟩
abbrev S8x512 : Shape := ⟨2, ![8, 512]⟩
abbrev S1x512 : Shape := ⟨2, ![1, 512]⟩
abbrev S384x512 : Shape := ⟨2, ![384, 512]⟩
abbrev S384 : Shape := ⟨1, ![384]⟩
abbrev S384x128 : Shape := ⟨2, ![384, 128]⟩
abbrev S128x384 : Shape := ⟨2, ![128, 384]⟩
abbrev S1x384 : Shape := ⟨2, ![1, 384]⟩

abbrev nBuf : Space → Nat
  | .hbm => 10
  | .vmem => 19
  | .smem => 0
  | _ => 0

abbrev bufTy : (tb : Table) → Fin (tcTables nBuf tb) → BufTy
  | .hbm, ⟨0, _⟩ => ⟨S1920x3072, .i8⟩
  | .hbm, ⟨1, _⟩ => ⟨S1920x1, .f32⟩
  | .hbm, ⟨2, _⟩ => ⟨S1920x3072, .bf16⟩
  | .hbm, ⟨3, _⟩ => ⟨S1x3072, .f32⟩
  | .hbm, ⟨4, _⟩ => ⟨S3072x1536, .i8⟩
  | .hbm, ⟨5, _⟩ => ⟨S96x3072, .f32⟩
  | .hbm, ⟨6, _⟩ => ⟨S1920x3072, .f32⟩
  | .hbm, ⟨7, _⟩ => ⟨S1920x3072, .i8⟩
  | .hbm, ⟨8, _⟩ => ⟨S5x1x384, .f32⟩
  | .hbm, ⟨9, _⟩ => ⟨S1920x1, .f32⟩
  | .local _ .vmem, ⟨0, _⟩ => ⟨S384x3072, .i8⟩
  | .local _ .vmem, ⟨1, _⟩ => ⟨S384x3072, .i8⟩
  | .local _ .vmem, ⟨2, _⟩ => ⟨S384x1, .f32⟩
  | .local _ .vmem, ⟨3, _⟩ => ⟨S384x1, .f32⟩
  | .local _ .vmem, ⟨4, _⟩ => ⟨S384x3072, .bf16⟩
  | .local _ .vmem, ⟨5, _⟩ => ⟨S384x3072, .bf16⟩
  | .local _ .vmem, ⟨6, _⟩ => ⟨S1x3072, .f32⟩
  | .local _ .vmem, ⟨7, _⟩ => ⟨S3072x1536, .i8⟩
  | .local _ .vmem, ⟨8, _⟩ => ⟨S96x3072, .f32⟩
  | .local _ .vmem, ⟨9, _⟩ => ⟨S384x3072, .f32⟩
  | .local _ .vmem, ⟨10, _⟩ => ⟨S384x3072, .f32⟩
  | .local _ .vmem, ⟨11, _⟩ => ⟨S384x3072, .i8⟩
  | .local _ .vmem, ⟨12, _⟩ => ⟨S384x3072, .i8⟩
  | .local _ .vmem, ⟨13, _⟩ => ⟨S1x1x384, .f32⟩
  | .local _ .vmem, ⟨14, _⟩ => ⟨S1x1x384, .f32⟩
  | .local _ .vmem, ⟨15, _⟩ => ⟨S384x1, .f32⟩
  | .local _ .vmem, ⟨16, _⟩ => ⟨S384x1, .f32⟩
  | .local _ .vmem, ⟨17, _⟩ => ⟨S3072x512, .bf16⟩
  | .local _ .vmem, ⟨18, _⟩ => ⟨S3072x512, .bf16⟩
  | _, _ => ⟨S1920x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x3072 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x1536 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x3072 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OprojReferenceIdeal.lean ====
abbrev S1920x3072 : Shape := ⟨2, ![1920, 3072]⟩
abbrev S1920x1 : Shape := ⟨2, ![1920, 1]⟩
abbrev S1x3072 : Shape := ⟨2, ![1, 3072]⟩
abbrev S3072x1536 : Shape := ⟨2, ![3072, 1536]⟩
abbrev S96x3072 : Shape := ⟨2, ![96, 3072]⟩
abbrev S5x1x384 : Shape := ⟨3, ![5, 1, 384]⟩
abbrev S96x1536 : Shape := ⟨2, ![96, 1536]⟩
abbrev S96x32x1536 : Shape := ⟨3, ![96, 32, 1536]⟩
abbrev S96x1x1536 : Shape := ⟨3, ![96, 1, 1536]⟩
abbrev S1920x1536 : Shape := ⟨2, ![1920, 1536]⟩
abbrev S1920 : Shape := ⟨1, ![1920]⟩

abbrev nBuf : Space → Nat
  | .hbm => 10
  | .vmem => 10
  | .smem => 0
  | _ => 0

abbrev bufTy : (tb : Table) → Fin (tcTables nBuf tb) → BufTy
  | .hbm, ⟨0, _⟩ => ⟨S1920x3072, .i8⟩
  | .hbm, ⟨1, _⟩ => ⟨S1920x1, .f32⟩
  | .hbm, ⟨2, _⟩ => ⟨S1920x3072, .bf16⟩
  | .hbm, ⟨3, _⟩ => ⟨S1x3072, .f32⟩
  | .hbm, ⟨4, _⟩ => ⟨S3072x1536, .i8⟩
  | .hbm, ⟨5, _⟩ => ⟨S96x3072, .f32⟩
  | .hbm, ⟨6, _⟩ => ⟨S1920x3072, .f32⟩
  | .hbm, ⟨7, _⟩ => ⟨S1920x3072, .i8⟩
  | .hbm, ⟨8, _⟩ => ⟨S5x1x384, .f32⟩
  | .hbm, ⟨9, _⟩ => ⟨S1920x1, .f32⟩
  | .local _ .vmem, ⟨0, _⟩ => ⟨S1920x3072, .i8⟩
  | .local _ .vmem, ⟨1, _⟩ => ⟨S1920x1, .f32⟩
  | .local _ .vmem, ⟨2, _⟩ => ⟨S1920x3072, .bf16⟩
  | .local _ .vmem, ⟨3, _⟩ => ⟨S1x3072, .f32⟩
  | .local _ .vmem, ⟨4, _⟩ => ⟨S3072x1536, .i8⟩
  | .local _ .vmem, ⟨5, _⟩ => ⟨S96x3072, .f32⟩
  | .local _ .vmem, ⟨6, _⟩ => ⟨S1920x3072, .f32⟩
  | .local _ .vmem, ⟨7, _⟩ => ⟨S1920x3072, .i8⟩
  | .local _ .vmem, ⟨8, _⟩ => ⟨S5x1x384, .f32⟩
  | .local _ .vmem, ⟨9, _⟩ => ⟨S1920x1, .f32⟩
  | _, _ => ⟨S1920x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1920x3072 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x1536 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1920x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1920x3072 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1920x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Dequant.lean ====
module

public import Idealize.ShloMosaic.Lib.Pipeline.ValueKit
public import Idealize.ShloMosaic.Lib.Pointwise
public import Idealize.ShloMosaic.Lib.BitcastFour
public import Idealize.ShloMosaic.Lib.IdealHost

/-! Unpacking of the 4-bit weights, for any extents: what the kernels store of one group of 32 weight rows, read at an
    index over the extended reals, and what a whole list of such stores leaves. -/

set_option maxRecDepth 16384

noncomputable section

@[expose] public section

open Idealize.ShloMosaic

namespace Cert.Dequant

/-! ## One byte -/

/-- A 4-bit two's complement field held in the low bits of a byte, as a signed byte. -/
def fld (n : BitVec 8) : BitVec 8 := Scalar.select (IntOp.cmpi .sge n 8#8) (IntOp.subi n 16#8) n

/-- The low field of a packed byte. -/
def loF (b : BitVec 8) : BitVec 8 := fld (IntOp.andi b 15#8)

/-- The high field of a packed byte. -/
def hiF (b : BitVec 8) : BitVec 8 := fld ((IntOp.shrsi .vector (b.setWidth 32) 4#32).setWidth 8)

/-- The byte shifted left by four bits is sixteen times its low field. -/
theorem lo_toInt (b : BitVec 8) : (b <<< 4).toInt = 16 * (loF b).toInt :=
  (by decide +kernel : ∀ b : BitVec 8, (b <<< 4).toInt = 16 * (loF b).toInt) b

/-- The byte with its low four bits cleared is sixteen times its high field. -/
theorem hi_toInt (b : BitVec 8) : (b &&& 240#8).toInt = 16 * (hiF b).toInt :=
  (by decide +kernel : ∀ b : BitVec 8, (b &&& 240#8).toInt = 16 * (hiF b).toInt) b

/-- The f32 constant one sixteenth. -/
theorem ofBits_sixteenth : Ideal.ofBits .f32 0x3D800000#32 = (((1 : ℝ) / 16 : ℝ) : EReal) := by
  simp [Ideal.ofBits, Ideal.ieee, -EReal.coe_mul]; norm_num

/-- Sixteen times a field, by a sixteenth of a scale, is the field by the scale. -/
theorem scaled (a b : ℤ) (h : a = 16 * b) (s : EReal) :
    ((a : ℝ) : EReal) * (s * Ideal.ofBits .f32 0x3D800000#32) = ((b : ℝ) : EReal) * s := by
  rw [ofBits_sixteenth, mul_comm s, ← mul_assoc, ← EReal.coe_mul, h]
  congr 2
  push_cast
  ring

/-! ## Four rows of bytes in a word -/

section Bytes
variable {r R n : Nat}

/-- A row of words read as bytes: bit `q` of byte row `p` is bit `8 (p % 4) + q` of word row `p / 4`. -/
theorem bitcast_32_8_getLsbD (x : (⟨2, ![r, n]⟩ : Shape).Idx → BitVec 32)
    (h : (⟨2, ![r, n]⟩ : Shape).Bitcasts 32 ⟨2, ![R, n]⟩ 8) (p : Fin R) (l : Fin n) (q : Nat) (hq : q < 8) (a : Fin r)
    (ha : a.val = p.val / 4) :
    (bitcast ⟨2, ![R, n]⟩ 8 x h (ix2 p l)).getLsbD q = (x (ix2 a l)).getLsbD (8 * (p.val % 4) + q) := by
  rw [bitcast_getLsbD x h _ q hq (by decide)]
  have hrow : Shape.row (s := (⟨2, ![R, n]⟩ : Shape)) (ix2 p l) = p.val := rfl
  have e1 : (p.val * 8 + q) / 32 = a.val := by omega
  have e2 : (p.val * 8 + q) % 32 = 8 * (p.val % 4) + q := by omega
  rw [show (Shape.row (s := (⟨2, ![R, n]⟩ : Shape)) (ix2 p l) * 8 + q) % 32 = 8 * (p.val % 4) + q from e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

theorem mask_bit (i : Nat) (hi : i < 32) : (4042322160#32 : BitVec 32).getLsbD i = decide (4 ≤ i % 8) := by
  interval_cases i <;> rfl

variable (x : (⟨2, ![R, n]⟩ : Shape).Idx → BitVec 8) (h : (⟨2, ![R, n]⟩ : Shape).Bitcasts 8 ⟨2, ![r, n]⟩ 32)
  (h' : (⟨2, ![r, n]⟩ : Shape).Bitcasts 32 ⟨2, ![R, n]⟩ 8)

theorem rows_eq (hR : R = 4 * r) (p : Fin R) : p.val / 4 < r := by have := p.isLt; omega

/-- Words masked byte by byte are bytes masked. -/
theorem bytes_mask (hR : R = 4 * r) (p : Fin R) (l : Fin n) :
    bitcast ⟨2, ![R, n]⟩ 8 (andi (bitcast ⟨2, ![r, n]⟩ 32 x h) (broadcast ⟨2, ![r, n]⟩ 4042322160#32)) h' (ix2 p l)
      = x (ix2 p l) &&& 240#8 := by
  apply BitVec.eq_of_getLsbD_eq
  intro q hq
  rw [bitcast_32_8_getLsbD _ h' p l q hq ⟨p.val / 4, rows_eq hR p⟩ rfl]
  show (IntOp.andi (bitcast _ 32 x h _) 4042322160#32).getLsbD _ = _
  rw [IntOp.andi, BitVec.getLsbD_and, BitVec.getLsbD_and, mask_bit _ (by omega),
    ix2_eq_valueIdx ⟨p.val / 4, rows_eq hR p⟩ l, bitcast_8_32_getLsbD_ix2 x h ⟨p.val / 4, rows_eq hR p⟩ l _ (by omega) p (by show p.val = 4 * (p.val / 4) + (8 * (p.val % 4) + q) / 8; omega),
    show (8 * (p.val % 4) + q) % 8 = q by omega, ← ix2_eq_valueIdx p l]
  congr 1
  interval_cases q <;> rfl

/-- Words shifted left by four bits and masked are bytes shifted left by four bits. -/
theorem bytes_shl (hR : R = 4 * r) (p : Fin R) (l : Fin n) :
    bitcast ⟨2, ![R, n]⟩ 8 (andi (shli (bitcast ⟨2, ![r, n]⟩ 32 x h) (broadcast ⟨2, ![r, n]⟩ 4#32))
      (broadcast ⟨2, ![r, n]⟩ 4042322160#32)) h' (ix2 p l) = x (ix2 p l) <<< 4 := by
  apply BitVec.eq_of_getLsbD_eq
  intro q hq
  rw [bitcast_32_8_getLsbD _ h' p l q hq ⟨p.val / 4, rows_eq hR p⟩ rfl]
  show (IntOp.andi ((bitcast _ 32 x h _) <<< 4) 4042322160#32).getLsbD _ = _
  rw [IntOp.andi, BitVec.getLsbD_and, mask_bit _ (by omega), BitVec.getLsbD_shiftLeft, BitVec.getLsbD_shiftLeft,
    show (8 * (p.val % 4) + q) % 8 = q by omega]
  by_cases h4 : 4 ≤ q
  · rw [ix2_eq_valueIdx ⟨p.val / 4, rows_eq hR p⟩ l, bitcast_8_32_getLsbD_ix2 x h ⟨p.val / 4, rows_eq hR p⟩ l _ (by omega) p (by show p.val = 4 * (p.val / 4) + (8 * (p.val % 4) + q - 4) / 8; omega),
      show (8 * (p.val % 4) + q - 4) % 8 = q - 4 by omega, ← ix2_eq_valueIdx p l]
    simp [h4, hq, show 8 * (p.val % 4) + q < 32 by omega, show ¬ 8 * (p.val % 4) + q < 4 by omega, show ¬ q < 4 by omega]
  · simp [h4, show q < 4 by omega]

end Bytes

/-! ## One group's tile -/

section Tile
variable {F : FTy → Type} [FloatOps F] {T : Nat}

/-- The shape facts a tile's operations ask for: they hold at every width, and a use proves them by evaluation. -/
structure Casts (T : Nat) : Prop where
  words : (⟨2, ![32, T]⟩ : Shape).Bitcasts 8 ⟨2, ![8, T]⟩ 32
  bytes : (⟨2, ![8, T]⟩ : Shape).Bitcasts 32 ⟨2, ![32, T]⟩ 8
  row : (⟨2, ![1, T]⟩ : Shape).ShapeCasts ⟨2, ![1, T]⟩
  tile : (⟨2, ![32, T]⟩ : Shape).ShapeCasts ⟨2, ![32, T]⟩
  spread : (⟨2, ![1, T]⟩ : Shape).Broadcasts ⟨2, ![32, T]⟩

/-- The scales of a group, each by a sixteenth, spread over the group's rows. -/
def scaleTile (H : Casts T) (s : FVec F ⟨2, ![1, T]⟩ .f32) : FVec F ⟨2, ![32, T]⟩ .bf16 :=
  truncf .bf16 (broadcastTo ⟨2, ![32, T]⟩ (shapeCast ⟨2, ![1, T]⟩ (mulf s (broadcast ⟨2, ![1, T]⟩ (Scalar.ofBits .f32 0x3D800000#32))) H.row) H.spread)
    (by decide)

/-- What is stored for the low fields of a group of rows `w` with scales `s`. -/
def loTile (H : Casts T) (w : Vec F ⟨2, ![32, T]⟩ .i8) (s : FVec F ⟨2, ![1, T]⟩ .f32) : FVec F ⟨2, ![32, T]⟩ .bf16 :=
  shapeCast ⟨2, ![32, T]⟩ (mulf (sitofp .bf16 (bitcast ⟨2, ![32, T]⟩ 8 (andi (shli (bitcast ⟨2, ![8, T]⟩ 32 w H.words) (broadcast ⟨2, ![8, T]⟩ 4#32))
      (broadcast ⟨2, ![8, T]⟩ 4042322160#32)) H.bytes)) (scaleTile H s)) H.tile

/-- What is stored for the high fields of a group of rows `w` with scales `s`. -/
def hiTile (H : Casts T) (w : Vec F ⟨2, ![32, T]⟩ .i8) (s : FVec F ⟨2, ![1, T]⟩ .f32) : FVec F ⟨2, ![32, T]⟩ .bf16 :=
  shapeCast ⟨2, ![32, T]⟩ (mulf (sitofp .bf16 (bitcast ⟨2, ![32, T]⟩ 8 (andi (bitcast ⟨2, ![8, T]⟩ 32 w H.words)
      (broadcast ⟨2, ![8, T]⟩ 4042322160#32)) H.bytes)) (scaleTile H s)) H.tile

variable (H : Casts T)

theorem scaleTile_apply (s : FVec Ideal ⟨2, ![1, T]⟩ .f32) (p : Fin 32) (l : Fin T) :
    scaleTile H s (ix2 p l) = s (ix2 0 l) * Ideal.ofBits .f32 0x3D800000#32 := by
  unfold scaleTile
  rw [shapeCast_self]
  show s _ * Ideal.ofBits .f32 0x3D800000#32 = _
  refine congrArg (fun i => s i * _) (funext fun a => ?_)
  match a with
  | ⟨0, _⟩ => exact Subsingleton.elim (α := Fin 1) _ _
  | ⟨1, _⟩ =>
    by_cases h1 : T = 1
    · subst h1; exact Subsingleton.elim (α := Fin 1) _ _
    · exact Fin.ext (congrArg Fin.val (dif_neg (show ¬ (![1, T] : Fin 2 → Nat) 1 = 1 from h1)))

/-- Over the extended reals a low tile holds field times scale. -/
theorem loTile_apply (w : Vec Ideal ⟨2, ![32, T]⟩ .i8) (s : FVec Ideal ⟨2, ![1, T]⟩ .f32) (p : Fin 32) (l : Fin T) :
    loTile H w s (ix2 p l) = (((loF (w (ix2 p l))).toInt : ℝ) : EReal) * s (ix2 0 l) := by
  unfold loTile
  rw [shapeCast_self]
  show ((BitVec.toInt (bitcast _ 8 _ H.bytes (ix2 p l)) : ℝ) : EReal) * scaleTile H s (ix2 p l) = _
  rw [scaleTile_apply, bytes_shl w H.words H.bytes rfl p l]
  exact scaled _ _ (lo_toInt _) _

/-- Over the extended reals a high tile holds field times scale. -/
theorem hiTile_apply (w : Vec Ideal ⟨2, ![32, T]⟩ .i8) (s : FVec Ideal ⟨2, ![1, T]⟩ .f32) (p : Fin 32) (l : Fin T) :
    hiTile H w s (ix2 p l) = (((hiF (w (ix2 p l))).toInt : ℝ) : EReal) * s (ix2 0 l) := by
  unfold hiTile
  rw [shapeCast_self]
  show ((BitVec.toInt (bitcast _ 8 _ H.bytes (ix2 p l)) : ℝ) : EReal) * scaleTile H s (ix2 p l) = _
  rw [scaleTile_apply, bytes_mask w H.words H.bytes rfl p l]
  exact scaled _ _ (hi_toInt _) _

end Tile

/-! ## The stores of all the groups -/

section Tiles
variable {F : FTy → Type} [FloatOps F] {D C T G SC : Nat}

/-- Where the tile of group `g` lies in the unpacked weights. -/
abbrev pieceRect (hD : D = 32 * G) (g : Nat) (hg : g < G) : Rect ⟨2, ![D, T]⟩ :=
  Rect.unit (s := ⟨2, ![D, T]⟩) ![32 * g, 0] ![32, T] (fun a => by
    match a with | ⟨0, _⟩ => show 32 * g + 32 ≤ D; omega | ⟨1, _⟩ => show 0 + T ≤ T; omega)

/-- The tile of group `g`, as a store into the unpacked weights: `f` of the group's rows of `W` (columns from `o`) and of
    the group's row of `S` (columns from `so`). -/
def piece (f : Vec F ⟨2, ![32, T]⟩ .i8 → FVec F ⟨2, ![1, T]⟩ .f32 → FVec F ⟨2, ![32, T]⟩ .bf16) (o so : Nat)
    (W : Vec F ⟨2, ![D, C]⟩ .i8) (S : Vec F ⟨2, ![G, SC]⟩ .f32) (hD : D = 32 * G) (ho : o + T ≤ C) (hso : so + T ≤ SC) (g : Nat) (hg : g < G) :
    View.Piece (Elt F) ⟨2, ![D, T]⟩ .bf16 :=
  ⟨pieceRect hD g hg,
    f (View.ld W (Rect.unit (s := ⟨2, ![D, C]⟩) ![32 * g, o] ![32, T] (fun a => by
        match a with | ⟨0, _⟩ => show 32 * g + 32 ≤ D; omega | ⟨1, _⟩ => exact ho)))
      (View.ld S (Rect.unit (s := ⟨2, ![G, SC]⟩) ![g, so] ![1, T] (fun a => by
        match a with | ⟨0, _⟩ => show g + 1 ≤ G; omega | ⟨1, _⟩ => exact hso)))⟩

/-- The stores of groups `0 … n - 1` over `tail`, the last first. -/
def piecesOn (tail : List (View.Piece (Elt F) ⟨2, ![D, T]⟩ .bf16)) (f : Vec F ⟨2, ![32, T]⟩ .i8 → FVec F ⟨2, ![1, T]⟩ .f32 → FVec F ⟨2, ![32, T]⟩ .bf16) (o so : Nat)
    (W : Vec F ⟨2, ![D, C]⟩ .i8) (S : Vec F ⟨2, ![G, SC]⟩ .f32) (hD : D = 32 * G) (ho : o + T ≤ C) (hso : so + T ≤ SC) :
    (n : Nat) → n ≤ G → List (View.Piece (Elt F) ⟨2, ![D, T]⟩ .bf16)
  | 0, _ => tail
  | n + 1, h => piece f o so W S hD ho hso n h :: piecesOn tail f o so W S hD ho hso n (Nat.le_of_succ_le h)

/-- The stores of groups `0 … n - 1`, the last first. -/
def pieces (f : Vec F ⟨2, ![32, T]⟩ .i8 → FVec F ⟨2, ![1, T]⟩ .f32 → FVec F ⟨2, ![32, T]⟩ .bf16) (o so : Nat)
    (W : Vec F ⟨2, ![D, C]⟩ .i8) (S : Vec F ⟨2, ![G, SC]⟩ .f32) (hD : D = 32 * G) (ho : o + T ≤ C) (hso : so + T ≤ SC) :
    (n : Nat) → n ≤ G → List (View.Piece (Elt F) ⟨2, ![D, T]⟩ .bf16) :=
  piecesOn [] f o so W S hD ho hso

variable (f : Vec Ideal ⟨2, ![32, T]⟩ .i8 → FVec Ideal ⟨2, ![1, T]⟩ .f32 → FVec Ideal ⟨2, ![32, T]⟩ .bf16) (o so : Nat)
    (W : Vec Ideal ⟨2, ![D, C]⟩ .i8) (S : Vec Ideal ⟨2, ![G, SC]⟩ .f32) (hD : D = 32 * G) (ho : o + T ≤ C) (hso : so + T ≤ SC)

/-- If `f` holds `v` of the byte times the scale at every index, the stores of groups `0 … n - 1` leave, at row `k` of
    them and column `l`, `v` of that row's byte times its group's scale. -/
theorem piecesOn_apply (tail : List (View.Piece (Elt Ideal) ⟨2, ![D, T]⟩ .bf16)) (v : BitVec 8 → EReal) (hf : ∀ w s p l, f w s (ix2 p l) = v (w (ix2 p l)) * s (ix2 0 l)) :
    ∀ (n : Nat) (hn : n ≤ G) (k : Fin D) (l : Fin T) (hk : k.val < 32 * n),
      View.canon (piecesOn tail f o so W S hD ho hso n hn) (ix2 k l)
        = v (W (ix2 k ⟨o + l.val, by omega⟩)) * S (ix2 ⟨k.val / 32, by omega⟩ ⟨so + l.val, by omega⟩)
  | 0, _, k, l, hk => absurd hk (by omega)
  | n + 1, hn, k, l, hk => by
    unfold piecesOn
    by_cases hlt : k.val < 32 * n
    · rw [View.canon_cons_of_not_mem]
      · exact piecesOn_apply tail v hf n _ k l hlt
      · exact Rect.not_mem_set_of_axis _ _ (0 : Fin 2) (32 * n) 32 rfl rfl rfl (Or.inl (by show k.val < 32 * n; omega))
    · have e : (ix2 k l : (⟨2, ![D, T]⟩ : Shape).Idx) = (pieceRect (D := D) (T := T) hD n hn).emb (ix2 (⟨k.val - 32 * n, by omega⟩ : Fin 32) l) := by
        funext a
        match a with
        | ⟨0, _⟩ => exact Fin.ext (by show k.val = 32 * n + 1 * (k.val - 32 * n); omega)
        | ⟨1, _⟩ => exact Fin.ext (by show l.val = 0 + 1 * l.val; omega)
      rw [e]
      refine (View.canon_cons_emb _ _ _ _).trans ?_
      show f _ _ (ix2 (⟨k.val - 32 * n, by omega⟩ : Fin 32) l) = _
      rw [hf]
      refine congrArg₂ (· * ·) (congrArg v (congrArg W ?_)) (congrArg S ?_)
      · funext a
        match a with
        | ⟨0, _⟩ => exact Fin.ext (by show 32 * n + 1 * (k.val - 32 * n) = k.val; omega)
        | ⟨1, _⟩ => exact Fin.ext (by show o + 1 * l.val = o + l.val; omega)
      · funext a
        match a with
        | ⟨0, _⟩ => exact Fin.ext (by show n + 1 * 0 = k.val / 32; omega)
        | ⟨1, _⟩ => exact Fin.ext (by show so + 1 * l.val = so + l.val; omega)

theorem pieces_apply (v : BitVec 8 → EReal) (hf : ∀ w s p l, f w s (ix2 p l) = v (w (ix2 p l)) * s (ix2 0 l)) (n : Nat) (hn : n ≤ G) (k : Fin D) (l : Fin T)
    (hk : k.val < 32 * n) : View.canon (pieces f o so W S hD ho hso n hn) (ix2 k l)
      = v (W (ix2 k ⟨o + l.val, by omega⟩)) * S (ix2 ⟨k.val / 32, by omega⟩ ⟨so + l.val, by omega⟩) :=
  piecesOn_apply f o so W S hD ho hso [] v hf n hn k l hk

end Tiles
end Cert.Dequant
-- ==== Proof.Rows.lean ====
module

public import Idealize.ShloMosaic.Lib.Pipeline.ValueKit
public import Idealize.ShloMosaic.Lib.Pointwise

/-! Stores of consecutive groups of whole rows, one after another, and what they leave at an index. -/

@[expose] public section

open Idealize Idealize.ShloMosaic

namespace Cert.Rows

section Generic
variable {F : FTy → Type} [FloatOps F] {D T R : Nat} {e : EltTy}

/-- Rows `R * g … R * g + R - 1` of a `D × T` array. -/
abbrev rows (D T R g : Nat) (hg : R * g + R ≤ D) : Rect ⟨2, ![D, T]⟩ :=
  Rect.unit (s := ⟨2, ![D, T]⟩) ![R * g, 0] ![R, T] (fun a => by
    match a with | ⟨0, _⟩ => exact hg | ⟨1, _⟩ => show 0 + T ≤ T; omega)

theorem rows_emb (g : Nat) (hg : R * g + R ≤ D) (r : Fin R) (l : Fin T) :
    (rows D T R g hg).emb (ix2 r l) = (ix2 (⟨R * g + r.val, by omega⟩ : Fin D) l : (⟨2, ![D, T]⟩ : Shape).Idx) := by
  funext a
  match a with
  | ⟨0, _⟩ => exact Fin.ext (by show R * g + 1 * r.val = R * g + r.val; omega)
  | ⟨1, _⟩ => exact Fin.ext (by show 0 + 1 * l.val = l.val; omega)

/-- The group of rows `g` of an array, read at a row and a column of the group. -/
theorem ld_rows (X : Vec F ⟨2, ![D, T]⟩ e) (g : Nat) (hg : R * g + R ≤ D) (r : Fin R) (l : Fin T) :
    View.ld X (rows D T R g hg) (ix2 r l) = X (ix2 (⟨R * g + r.val, by omega⟩ : Fin D) l) :=
  congrArg X (rows_emb g hg r l)

theorem step_le {n : Nat} (h : R * (n + 1) ≤ D) : R * n + R ≤ D := by rw [Nat.mul_succ] at h; exact h

theorem below {n : Nat} (h : R * (n + 1) ≤ D) : R * n ≤ D := by rw [Nat.mul_succ] at h; omega

/-- The stores of groups `0 … n - 1` over `tail`, the last first. -/
def stores (tail : List (View.Piece (Elt F) ⟨2, ![D, T]⟩ e)) (f : (g : Nat) → R * g + R ≤ D → Vec F ⟨2, ![R, T]⟩ e) :
    (n : Nat) → R * n ≤ D → List (View.Piece (Elt F) ⟨2, ![D, T]⟩ e)
  | 0, _ => tail
  | n + 1, h => ⟨rows D T R n (step_le h), f n (step_le h)⟩ :: stores tail f n (below h)

/-- The same where group `n`'s value is computed from the group's rows of what the earlier stores left. -/
noncomputable def updates {sig : RefSig} {κ : Kind} {sp : Space} (v : View sig κ sp ⟨2, ![D, T]⟩ e)
    (tail : List (View.Piece (Elt F) ⟨2, ![D, T]⟩ e)) (f : (g : Nat) → R * g + R ≤ D → Vec F ⟨2, ![R, T]⟩ e → Vec F ⟨2, ![R, T]⟩ e) :
    (n : Nat) → R * n ≤ D → List (View.Piece (Elt F) ⟨2, ![D, T]⟩ e)
  | 0, _ => tail
  | n + 1, h => ⟨rows D T R n (step_le h), f n (step_le h) (v.readCov (updates v tail f n (below h)) (rows D T R n (step_le h)).toLoadRect)⟩
      :: updates v tail f n (below h)

end Generic

section Ideal
variable {D T R : Nat} {e : EltTy} (tail : List (View.Piece (Elt Ideal) ⟨2, ![D, T]⟩ e))

/-- One more group of rows over `L`: the group's own value under it, what `L` left elsewhere. -/
theorem canon_cons (L : List (View.Piece (Elt Ideal) ⟨2, ![D, T]⟩ e)) (n : Nat) (h : R * n + R ≤ D) (w : Vec Ideal ⟨2, ![R, T]⟩ e)
    (r : Fin D) (l : Fin T) :
    View.canon (⟨rows D T R n h, w⟩ :: L) (ix2 r l)
      = if hr : R * n ≤ r.val ∧ r.val < R * n + R then w (ix2 ⟨r.val - R * n, by omega⟩ l) else View.canon L (ix2 r l) := by
  split
  · rename_i hr
    have e : (ix2 r l : (⟨2, ![D, T]⟩ : Shape).Idx) = (rows D T R n h).emb (ix2 (⟨r.val - R * n, by omega⟩ : Fin R) l) :=
      (congrArg (fun q => ix2 q l) (Fin.ext (by show r.val = R * n + (r.val - R * n); omega))).trans (rows_emb n h _ l).symm
    rw [e]
    exact View.canon_cons_emb _ _ _ _
  · rename_i hr
    exact View.canon_cons_of_not_mem _ _ (Rect.not_mem_set_of_axis _ _ (0 : Fin 2) (R * n) R rfl rfl rfl (by
      show r.val < R * n ∨ R * n + R ≤ r.val; omega))

/-- Past the groups, the stores leave what was there. -/
theorem updates_rest {sig : RefSig} {κ : Kind} {sp : Space} (v : View sig κ sp ⟨2, ![D, T]⟩ e)
    (f : (g : Nat) → R * g + R ≤ D → Vec Ideal ⟨2, ![R, T]⟩ e → Vec Ideal ⟨2, ![R, T]⟩ e) :
    ∀ (n : Nat) (hn : R * n ≤ D) (r : Fin D) (l : Fin T) (_ : R * n ≤ r.val),
      View.canon (updates v tail f n hn) (ix2 r l) = View.canon tail (ix2 r l)
  | 0, _, _, _, _ => rfl
  | n + 1, hn, r, l, hr => by
    have hr' : R * n + R ≤ r.val := by rw [Nat.mul_succ] at hr; exact hr
    unfold updates
    rw [canon_cons, dif_neg (by omega)]
    exact updates_rest v f n _ r l (by omega)

/-- Under group `g`, the updates leave `f g` of the group's rows of what was there. -/
theorem updates_apply {sig : RefSig} {κ : Kind} {sp : Space} (v : View sig κ sp ⟨2, ![D, T]⟩ e)
    (f : (g : Nat) → R * g + R ≤ D → Vec Ideal ⟨2, ![R, T]⟩ e → Vec Ideal ⟨2, ![R, T]⟩ e) (g : Nat) (hg : R * g + R ≤ D) (r : Fin R) (l : Fin T) :
    ∀ (n : Nat) (hn : R * n ≤ D) (_ : g < n),
      View.canon (updates v tail f n hn) (ix2 (⟨R * g + r.val, by omega⟩ : Fin D) l)
        = f g hg (View.ld (View.canon tail) (rows D T R g hg)) (ix2 r l)
  | 0, _, h => absurd h (Nat.not_lt_zero _)
  | n + 1, hn, h => by
    unfold updates
    rcases Nat.lt_succ_iff_lt_or_eq.mp h with h1 | h1
    · have : R * (g + 1) ≤ R * n := Nat.mul_le_mul_left R h1
      rw [Nat.mul_succ] at this
      rw [canon_cons, dif_neg (by show ¬ (R * n ≤ R * g + r.val ∧ R * g + r.val < R * n + R); omega)]
      exact updates_apply v f g hg r l n _ h1
    · subst h1
      rw [canon_cons, dif_pos (by show R * g ≤ R * g + r.val ∧ R * g + r.val < R * g + R; omega)]
      have e1 : (⟨R * g + r.val - R * g, by omega⟩ : Fin R) = r := Fin.ext (by show R * g + r.val - R * g = r.val; omega)
      show f g hg _ (ix2 (⟨R * g + r.val - R * g, _⟩ : Fin R) l) = _
      rw [e1]
      congr 1
      rw [View.readCov_eq_canon']
      refine funext fun (y : (⟨2, ![R, T]⟩ : Shape).Idx) => ?_
      obtain ⟨p, q, rfl⟩ : ∃ p q, y = ix2 p q := ⟨y 0, y 1, eq_ix2 y⟩
      show View.canon _ ((rows D T R g hg).emb (ix2 p q)) = View.canon _ ((rows D T R g hg).emb (ix2 p q))
      rw [rows_emb]
      exact updates_rest tail v f g _ _ _ (by show R * g ≤ R * g + p.val; omega)

/-- Under group `g`, the stores leave `f g`. -/
theorem stores_apply (f : (g : Nat) → R * g + R ≤ D → Vec Ideal ⟨2, ![R, T]⟩ e) (g : Nat) (hg : R * g + R ≤ D) (r : Fin R) (l : Fin T) :
    ∀ (n : Nat) (hn : R * n ≤ D) (_ : g < n),
      View.canon (stores tail f n hn) (ix2 (⟨R * g + r.val, by omega⟩ : Fin D) l) = f g hg (ix2 r l)
  | 0, _, h => absurd h (Nat.not_lt_zero _)
  | n + 1, hn, h => by
    unfold stores
    rcases Nat.lt_succ_iff_lt_or_eq.mp h with h1 | h1
    · have : R * (g + 1) ≤ R * n := Nat.mul_le_mul_left R h1
      rw [Nat.mul_succ] at this
      rw [canon_cons, dif_neg (by show ¬ (R * n ≤ R * g + r.val ∧ R * g + r.val < R * n + R); omega)]
      exact stores_apply f g hg r l n _ h1
    · subst h1
      rw [canon_cons, dif_pos (by show R * g ≤ R * g + r.val ∧ R * g + r.val < R * g + R; omega)]
      exact congrArg (fun q => f g hg (ix2 q l)) (Fin.ext (by show R * g + r.val - R * g = r.val; omega))

end Ideal
end Cert.Rows
-- ==== Proof.Gateup.lean ====
module

public import proofs.«01_k».proof.Proof.Gen.GateupKernelIdeal.Value
public import proofs.«01_k».proof.Proof.Dequant
public import proofs.«01_k».proof.Proof.Rows

/-! What one grid point of the gate/up kernel stores, over the extended reals, as stores of row groups. -/

@[expose] public section

open Idealize Idealize.ShloMosaic Cert.Dequant Cert.Rows

namespace Cert.GateupKernelIdeal
open Gen

set_option maxRecDepth 100000

theorem casts : Casts 256 := ⟨by decide, by decide, by decide, by decide, by decide⟩

/-- The unpacked low fields of a column block, with their scales: what the stores of all 96 groups leave. -/
noncomputable def wlo (w : Vec Ideal S3072x256 .i8) (s : Vec Ideal S96x256 .f32) : Vec Ideal S3072x256 .bf16 :=
  View.canon (pieces (D := 3072) (C := 256) (T := 256) (G := 96) (SC := 256) (loTile casts) 0 0 w s rfl (by decide) (by decide) 96 (le_refl _))

/-- The unpacked high fields of a column block, with their scales. -/
noncomputable def whi (w : Vec Ideal S3072x256 .i8) (s : Vec Ideal S96x256 .f32) : Vec Ideal S3072x256 .bf16 :=
  View.canon (pieces (D := 3072) (C := 256) (T := 256) (G := 96) (SC := 256) (hiTile casts) 0 0 w s rfl (by decide) (by decide) 96 (le_refl _))

theorem wlo_apply (w s) (k : Fin 3072) (l : Fin 256) :
    wlo w s (ix2 k l) = (((loF (w (ix2 k l))).toInt : ℝ) : EReal) * s (ix2 (⟨k.val / 32, by omega⟩ : Fin 96) l) := by
  refine (pieces_apply _ 0 0 w s rfl (by decide) (by decide) (fun b => (((loF b).toInt : ℝ) : EReal)) (loTile_apply casts) 96 (le_refl _) k l k.isLt).trans ?_
  simp only [Nat.zero_add]

theorem whi_apply (w s) (k : Fin 3072) (l : Fin 256) :
    whi w s (ix2 k l) = (((hiF (w (ix2 k l))).toInt : ℝ) : EReal) * s (ix2 (⟨k.val / 32, by omega⟩ : Fin 96) l) := by
  refine (pieces_apply _ 0 0 w s rfl (by decide) (by decide) (fun b => (((hiF b).toInt : ℝ) : EReal)) (hiTile_apply casts) 96 (le_refl _) k l k.isLt).trans ?_
  simp only [Nat.zero_add]

theorem wlo_A (c : Dev nD) arg3 harg3 arg4 harg4 arg9 x2 x3 :
    kernelRun0_A.sl.v3077 (F := Ideal) c arg3 harg3 arg4 harg4 arg9 x2 x3 = wlo x2 x3 := by
  have e : kernelRun0_A.sl.v3077 (F := Ideal) c arg3 harg3 arg4 harg4 arg9 x2 x3 = View.readCov arg9.view
      (pieces (D := 3072) (C := 256) (T := 256) (G := 96) (SC := 256) (loTile casts) 0 0 (arg3.view.read (Elt Ideal) (harg3.unread x2))
        (arg4.view.read (Elt Ideal) (harg4.unread x3)) rfl (by decide) (by decide) 96 (le_refl _))
      (Rect.unit (s := S3072x256) ![0, 0] S3072x256.size inb_S3072x256_S3072x256_0_0).toLoadRect := rfl
  rw [e, harg3.read_unread x2, harg4.read_unread x3, View.readCov_eq_canon']
  exact View.ld_unit_zero (S := S3072x256) (by decide) _ _

theorem whi_A (c : Dev nD) arg3 harg3 arg5 harg5 arg9 x2 x4 :
    kernelRun0_A.sl.v3081 (F := Ideal) c arg3 harg3 arg5 harg5 arg9 x2 x4 = whi x2 x4 := by
  have e : kernelRun0_A.sl.v3081 (F := Ideal) c arg3 harg3 arg5 harg5 arg9 x2 x4 = View.readCov arg9.view
      (pieces (D := 3072) (C := 256) (T := 256) (G := 96) (SC := 256) (hiTile casts) 0 0 (arg3.view.read (Elt Ideal) (harg3.unread x2))
        (arg5.view.read (Elt Ideal) (harg5.unread x4)) rfl (by decide) (by decide) 96 (le_refl _))
      (Rect.unit (s := S3072x256) ![0, 0] S3072x256.size inb_S3072x256_S3072x256_0_0).toLoadRect := rfl
  rw [e, harg3.read_unread x2, harg5.read_unread x4, View.readCov_eq_canon']
  exact View.ld_unit_zero (S := S3072x256) (by decide) _ _

theorem wlo_B (c : Dev nD) arg3 harg3 arg4 harg4 arg9 x2 x3 :
    kernelRun0_B.sl.v3077 (F := Ideal) c arg3 harg3 arg4 harg4 arg9 x2 x3 = wlo x2 x3 := by
  have e : kernelRun0_B.sl.v3077 (F := Ideal) c arg3 harg3 arg4 harg4 arg9 x2 x3 = View.readCov arg9.view
      (pieces (D := 3072) (C := 256) (T := 256) (G := 96) (SC := 256) (loTile casts) 0 0 (arg3.view.read (Elt Ideal) (harg3.unread x2))
        (arg4.view.read (Elt Ideal) (harg4.unread x3)) rfl (by decide) (by decide) 96 (le_refl _))
      (Rect.unit (s := S3072x256) ![0, 0] S3072x256.size inb_S3072x256_S3072x256_0_0).toLoadRect := rfl
  rw [e, harg3.read_unread x2, harg4.read_unread x3, View.readCov_eq_canon']
  exact View.ld_unit_zero (S := S3072x256) (by decide) _ _

theorem whi_B (c : Dev nD) arg3 harg3 arg5 harg5 arg9 x2 x4 :
    kernelRun0_B.sl.v3081 (F := Ideal) c arg3 harg3 arg5 harg5 arg9 x2 x4 = whi x2 x4 := by
  have e : kernelRun0_B.sl.v3081 (F := Ideal) c arg3 harg3 arg5 harg5 arg9 x2 x4 = View.readCov arg9.view
      (pieces (D := 3072) (C := 256) (T := 256) (G := 96) (SC := 256) (hiTile casts) 0 0 (arg3.view.read (Elt Ideal) (harg3.unread x2))
        (arg5.view.read (Elt Ideal) (harg5.unread x4)) rfl (by decide) (by decide) 96 (le_refl _))
      (Rect.unit (s := S3072x256) ![0, 0] S3072x256.size inb_S3072x256_S3072x256_0_0).toLoadRect := rfl
  rw [e, harg3.read_unread x2, harg5.read_unread x4, View.readCov_eq_canon']
  exact View.ld_unit_zero (S := S3072x256) (by decide) _ _

theorem wlo_C (c : Dev nD) arg3 harg3 arg4 harg4 arg9 x2 x3 :
    kernelRun0_C.sl.v3077 (F := Ideal) c arg3 harg3 arg4 harg4 arg9 x2 x3 = wlo x2 x3 := by
  have e : kernelRun0_C.sl.v3077 (F := Ideal) c arg3 harg3 arg4 harg4 arg9 x2 x3 = View.readCov arg9.view
      (pieces (D := 3072) (C := 256) (T := 256) (G := 96) (SC := 256) (loTile casts) 0 0 (arg3.view.read (Elt Ideal) (harg3.unread x2))
        (arg4.view.read (Elt Ideal) (harg4.unread x3)) rfl (by decide) (by decide) 96 (le_refl _))
      (Rect.unit (s := S3072x256) ![0, 0] S3072x256.size inb_S3072x256_S3072x256_0_0).toLoadRect := rfl
  rw [e, harg3.read_unread x2, harg4.read_unread x3, View.readCov_eq_canon']
  exact View.ld_unit_zero (S := S3072x256) (by decide) _ _

theorem whi_C (c : Dev nD) arg3 harg3 arg5 harg5 arg9 x2 x4 :
    kernelRun0_C.sl.v3081 (F := Ideal) c arg3 harg3 arg5 harg5 arg9 x2 x4 = whi x2 x4 := by
  have e : kernelRun0_C.sl.v3081 (F := Ideal) c arg3 harg3 arg5 harg5 arg9 x2 x4 = View.readCov arg9.view
      (pieces (D := 3072) (C := 256) (T := 256) (G := 96) (SC := 256) (hiTile casts) 0 0 (arg3.view.read (Elt Ideal) (harg3.unread x2))
        (arg5.view.read (Elt Ideal) (harg5.unread x4)) rfl (by decide) (by decide) 96 (le_refl _))
      (Rect.unit (s := S3072x256) ![0, 0] S3072x256.size inb_S3072x256_S3072x256_0_0).toLoadRect := rfl
  rw [e, harg3.read_unread x2, harg5.read_unread x4, View.readCov_eq_canon']
  exact View.ld_unit_zero (S := S3072x256) (by decide) _ _

/-- The groups of rows of the codes. -/
abbrev grp (X : Vec Ideal S1920x3072 .bf16) (g : Nat) (h : 384 * g + 384 ≤ 1920) : Vec Ideal S384x3072 .bf16 :=
  View.ld X (rows 1920 3072 384 g h)

/-- Row group `g` of what is stored for `h`: from the group's scales, the group's codes and the two unpacked halves. -/
noncomputable def hRows (xs : Vec Ideal S1920x1 .f32) (xb : (g : Nat) → 384 * g + 384 ≤ 1920 → Vec Ideal S384x3072 .bf16) (wl wh : Vec Ideal S3072x256 .bf16) (g : Nat)
    (h : 384 * g + 384 ≤ 1920) : Vec Ideal S384x256 .f32 :=
  k0_pay402 (View.ld xs (rows 1920 1 384 g h)) (xb g h) wl wh

/-- What a point stores for `h`. -/
noncomputable def hBlock (xs : Vec Ideal S1920x1 .f32) (xb : (g : Nat) → 384 * g + 384 ≤ 1920 → Vec Ideal S384x3072 .bf16) (wl wh : Vec Ideal S3072x256 .bf16) :
    Vec Ideal S1920x256 .f32 :=
  View.canon (stores (D := 1920) (T := 256) (R := 384) [] (hRows xs xb wl wh) 5 (by decide))

/-- What the first point leaves of the running maxima: it starts them from zero. -/
noncomputable def mFirst (xs : Vec Ideal S1920x1 .f32) (xb : (g : Nat) → 384 * g + 384 ≤ 1920 → Vec Ideal S384x3072 .bf16) (wl wh : Vec Ideal S3072x256 .bf16) (v : View sig .tc .vmem S1920x128 .f32) :
    Vec Ideal S1920x128 .f32 :=
  View.canon (updates (D := 1920) (T := 128) (R := 384) v
    [⟨Rect.unit (s := S1920x128) ![0, 0] S1920x128.size inb_S1920x128_S1920x128_0_0, (k0_pay3 (F := Ideal) : Vec Ideal S1920x128 .f32)⟩] (fun g h a => k0_pay411 (hRows xs xb wl wh g h) a) 5 (by decide))

/-- What a later point stores for the running maxima, from what was there. -/
noncomputable def mStores (xs : Vec Ideal S1920x1 .f32) (xb : (g : Nat) → 384 * g + 384 ≤ 1920 → Vec Ideal S384x3072 .bf16) (wl wh : Vec Ideal S3072x256 .bf16) (acc : Vec Ideal S1920x128 .f32) :
    List (View.Piece (Elt Ideal) S1920x128 .f32) :=
  stores (D := 1920) (T := 128) (R := 384) [] (fun g h => k0_pay411 (hRows xs xb wl wh g h) (View.ld acc (rows 1920 128 384 g h))) 5 (by decide)

/-- The first point keeps the codes as numbers. -/
theorem sout0_A_0_eq (c : Dev nD) (i) arg1 harg1 arg2 harg2 arg3 harg3 arg4 harg4 arg5 harg5 arg6 harg6 arg7 harg7 arg8 harg8 arg9 harg9 arg10 harg10 arg11 harg11 h0 h1 x0 x1 x2 x3 x4 :
    sout0_A_0 (F := Ideal) c i arg1 harg1 arg2 harg2 arg3 harg3 arg4 harg4 arg5 harg5 arg6 harg6 arg7 harg7 arg8 harg8 arg9 harg9 arg10 harg10 arg11 harg11 h0 h1 x0 x1 x2 x3 x4 = k0_pay2 x0 := by
  unfold sout0_A_0
  rw [View.read_writes_eq_canon _ _ _ (fun y => scover0_A_0 _ _ _ _ _ _ _ _ _ _ _ _ _ _ _ _ _ _ _ _ _ _ _ _ _ _ _ _ _ _ _ y)]
  unfold kernelRun0_A
  dsimp only
  unfold kernelRun0_A.sl.HS0_1
  rw [View.readAt_eq_ld, harg1.read_unread]
  refine (View.canon_unit_zero (S := S1920x3072) (by decide) _ _).trans (congrArg k0_pay2 ?_)
  exact View.ld_unit_zero (S := S1920x3072) (by decide) _ _

/-- The codes as the first point keeps them. -/
theorem kept (c : Dev nD) arg1 harg1 x0 : View.canon (kernelRun0_A.sl.HS0_1 (F := Ideal) c arg1 harg1 x0) = k0_pay2 x0 := by
  unfold kernelRun0_A.sl.HS0_1
  rw [View.readAt_eq_ld, harg1.read_unread]
  refine (View.canon_unit_zero (S := S1920x3072) (by decide) _ _).trans (congrArg k0_pay2 ?_)
  exact View.ld_unit_zero (S := S1920x3072) (by decide) _ _

/-- What the first point stores for `h`. -/
theorem out0_A_5_eq (c : Dev nD) (i) arg1 harg1 arg2 harg2 arg3 harg3 arg4 harg4 arg5 harg5 arg6 harg6 arg7 harg7 arg8 harg8 arg9 harg9 arg10 harg10 arg11 harg11 h0 h1 x0 x1 x2 x3 x4 :
    out0_A_5 (F := Ideal) c i arg1 harg1 arg2 harg2 arg3 harg3 arg4 harg4 arg5 harg5 arg6 harg6 arg7 harg7 arg8 harg8 arg9 harg9 arg10 harg10 arg11 harg11 h0 h1 x0 x1 x2 x3 x4 = hBlock x1 (grp (k0_pay2 x0)) (wlo x2 x3) (whi x2 x4) := by
  unfold out0_A_5
  rw [View.read_writes_eq_canon _ _ _ (fun y => cover0_A_5 _ _ _ _ _ _ _ _ _ _ _ _ _ _ _ _ _ _ _ _ _ _ _ _ _ _ _ _ _ _ _ y)]
  unfold kernelRun0_A
  dsimp only
  have e : (fun g h => arg8.view.readCov (kernelRun0_A.sl.HS0_1 (F := Ideal) c arg1 harg1 x0) (rows 1920 3072 384 g h).toLoadRect) = grp (k0_pay2 x0) := by
    funext g h
    rw [View.readCov_eq_canon', kept]
    rfl
  rw [← e, ← wlo_A c arg3 harg3 arg4 harg4 arg9 x2 x3, ← whi_A c arg3 harg3 arg5 harg5 arg10 x2 x4]
  exact (show _ = hBlock (arg2.view.read (Elt Ideal) (harg2.unread x1)) (fun g h => arg8.view.readCov (kernelRun0_A.sl.HS0_1 (F := Ideal) c arg1 harg1 x0) (rows 1920 3072 384 g h).toLoadRect) (kernelRun0_A.sl.v3077 (F := Ideal) c arg3 harg3 arg4 harg4 arg9 x2 x3) (kernelRun0_A.sl.v3081 c arg3 harg3 arg5 harg5 arg10 x2 x4) from rfl).trans (congrArg (fun q => hBlock q (fun g h => arg8.view.readCov (kernelRun0_A.sl.HS0_1 (F := Ideal) c arg1 harg1 x0) (rows 1920 3072 384 g h).toLoadRect) (kernelRun0_A.sl.v3077 (F := Ideal) c arg3 harg3 arg4 harg4 arg9 x2 x3) (kernelRun0_A.sl.v3081 c arg3 harg3 arg5 harg5 arg10 x2 x4)) (harg2.read_unread x1))

/-- What the first point leaves of the running maxima. -/
theorem sout0_A_3_eq (c : Dev nD) (i) arg1 harg1 arg2 harg2 arg3 harg3 arg4 harg4 arg5 harg5 arg6 harg6 arg7 harg7 arg8 harg8 arg9 harg9 arg10 harg10 arg11 harg11 h0 h1 x0 x1 x2 x3 x4 :
    sout0_A_3 (F := Ideal) c i arg1 harg1 arg2 harg2 arg3 harg3 arg4 harg4 arg5 harg5 arg6 harg6 arg7 harg7 arg8 harg8 arg9 harg9 arg10 harg10 arg11 harg11 h0 h1 x0 x1 x2 x3 x4 = mFirst x1 (grp (k0_pay2 x0)) (wlo x2 x3) (whi x2 x4) arg11.view := by
  unfold sout0_A_3
  rw [View.read_writes_eq_canon _ _ _ (fun y => scover0_A_3 _ _ _ _ _ _ _ _ _ _ _ _ _ _ _ _ _ _ _ _ _ _ _ _ _ _ _ _ _ _ _ y)]
  unfold kernelRun0_A
  dsimp only
  have e : (fun g h => arg8.view.readCov (kernelRun0_A.sl.HS0_1 (F := Ideal) c arg1 harg1 x0) (rows 1920 3072 384 g h).toLoadRect) = grp (k0_pay2 x0) := by
    funext g h
    rw [View.readCov_eq_canon', kept]
    rfl
  rw [← e, ← wlo_A c arg3 harg3 arg4 harg4 arg9 x2 x3, ← whi_A c arg3 harg3 arg5 harg5 arg10 x2 x4]
  exact (show _ = mFirst (arg2.view.read (Elt Ideal) (harg2.unread x1)) (fun g h => arg8.view.readCov (kernelRun0_A.sl.HS0_1 (F := Ideal) c arg1 harg1 x0) (rows 1920 3072 384 g h).toLoadRect) (kernelRun0_A.sl.v3077 (F := Ideal) c arg3 harg3 arg4 harg4 arg9 x2 x3) (kernelRun0_A.sl.v3081 c arg3 harg3 arg5 harg5 arg10 x2 x4) arg11.view from rfl).trans (congrArg (fun q => mFirst q (fun g h => arg8.view.readCov (kernelRun0_A.sl.HS0_1 (F := Ideal) c arg1 harg1 x0) (rows 1920 3072 384 g h).toLoadRect) (kernelRun0_A.sl.v3077 (F := Ideal) c arg3 harg3 arg4 harg4 arg9 x2 x3) (kernelRun0_A.sl.v3081 c arg3 harg3 arg5 harg5 arg10 x2 x4) arg11.view) (harg2.read_unread x1))

/-- What a later point stores for `h`. -/
theorem out0_B_5_eq (c : Dev nD) (i) arg1 harg1 arg2 harg2 arg3 harg3 arg4 harg4 arg5 harg5 arg6 harg6 arg7 harg7 arg8 harg8 arg9 harg9 arg10 harg10 arg11 harg11 h0 h1 x0 x1 x2 x3 x4 xs0 xs3 :
    out0_B_5 (F := Ideal) c i arg1 harg1 arg2 harg2 arg3 harg3 arg4 harg4 arg5 harg5 arg6 harg6 arg7 harg7 arg8 harg8 arg9 harg9 arg10 harg10 arg11 harg11 h0 h1 x0 x1 x2 x3 x4 xs0 xs3 = hBlock x1 (grp xs0) (wlo x2 x3) (whi x2 x4) := by
  unfold out0_B_5
  rw [View.read_writes_eq_canon _ _ _ (fun y => cover0_B_5 _ _ _ _ _ _ _ _ _ _ _ _ _ _ _ _ _ _ _ _ _ _ _ _ _ _ _ _ _ _ _ _ _ y)]
  unfold kernelRun0_B
  dsimp only
  rw [← wlo_B c arg3 harg3 arg4 harg4 arg9 x2 x3, ← whi_B c arg3 harg3 arg5 harg5 arg10 x2 x4]
  refine (show _ = hBlock (arg2.view.read (Elt Ideal) (harg2.unread x1)) (grp (arg8.view.read (Elt Ideal) (harg8.unread xs0))) (kernelRun0_B.sl.v3077 (F := Ideal) c arg3 harg3 arg4 harg4 arg9 x2 x3) (kernelRun0_B.sl.v3081 c arg3 harg3 arg5 harg5 arg10 x2 x4) from rfl).trans ?_
  rw [harg2.read_unread, harg8.read_unread]

/-- What a later point leaves of the running maxima. -/
theorem sout0_B_3_eq (c : Dev nD) (i) arg1 harg1 arg2 harg2 arg3 harg3 arg4 harg4 arg5 harg5 arg6 harg6 arg7 harg7 arg8 harg8 arg9 harg9 arg10 harg10 arg11 harg11 h0 h1 x0 x1 x2 x3 x4 xs0 xs3 :
    sout0_B_3 (F := Ideal) c i arg1 harg1 arg2 harg2 arg3 harg3 arg4 harg4 arg5 harg5 arg6 harg6 arg7 harg7 arg8 harg8 arg9 harg9 arg10 harg10 arg11 harg11 h0 h1 x0 x1 x2 x3 x4 xs0 xs3 = View.canon (mStores x1 (grp xs0) (wlo x2 x3) (whi x2 x4) xs3) := by
  unfold sout0_B_3
  rw [View.read_writes_eq_canon _ _ _ (fun y => scover0_B_3 _ _ _ _ _ _ _ _ _ _ _ _ _ _ _ _ _ _ _ _ _ _ _ _ _ _ _ _ _ _ _ _ _ y)]
  unfold kernelRun0_B
  dsimp only
  rw [← wlo_B c arg3 harg3 arg4 harg4 arg9 x2 x3, ← whi_B c arg3 harg3 arg5 harg5 arg10 x2 x4]
  refine (show _ = View.canon (mStores (arg2.view.read (Elt Ideal) (harg2.unread x1)) (grp (arg8.view.read (Elt Ideal) (harg8.unread xs0))) (kernelRun0_B.sl.v3077 (F := Ideal) c arg3 harg3 arg4 harg4 arg9 x2 x3) (kernelRun0_B.sl.v3081 c arg3 harg3 arg5 harg5 arg10 x2 x4) (arg11.view.read (Elt Ideal) (harg11.unread xs3))) from rfl).trans ?_
  rw [harg2.read_unread, harg8.read_unread, harg11.read_unread]

/-- What a later point stores for `h`. -/
theorem out0_C_5_eq (c : Dev nD) (i) arg1 harg1 arg2 harg2 arg3 harg3 arg4 harg4 arg5 harg5 arg6 harg6 arg7 harg7 arg8 harg8 arg9 harg9 arg10 harg10 arg11 harg11 h0 h1 x0 x1 x2 x3 x4 xs0 xs3 :
    out0_C_5 (F := Ideal) c i arg1 harg1 arg2 harg2 arg3 harg3 arg4 harg4 arg5 harg5 arg6 harg6 arg7 harg7 arg8 harg8 arg9 harg9 arg10 harg10 arg11 harg11 h0 h1 x0 x1 x2 x3 x4 xs0 xs3 = hBlock x1 (grp xs0) (wlo x2 x3) (whi x2 x4) := by
  unfold out0_C_5
  rw [View.read_writes_eq_canon _ _ _ (fun y => cover0_C_5 _ _ _ _ _ _ _ _ _ _ _ _ _ _ _ _ _ _ _ _ _ _ _ _ _ _ _ _ _ _ _ _ _ y)]
  unfold kernelRun0_C
  dsimp only
  rw [← wlo_C c arg3 harg3 arg4 harg4 arg9 x2 x3, ← whi_C c arg3 harg3 arg5 harg5 arg10 x2 x4]
  refine (show _ = hBlock (arg2.view.read (Elt Ideal) (harg2.unread x1)) (grp (arg8.view.read (Elt Ideal) (harg8.unread xs0))) (kernelRun0_C.sl.v3077 (F := Ideal) c arg3 harg3 arg4 harg4 arg9 x2 x3) (kernelRun0_C.sl.v3081 c arg3 harg3 arg5 harg5 arg10 x2 x4) from rfl).trans ?_
  rw [harg2.read_unread, harg8.read_unread]

/-- What a later point leaves of the running maxima. -/
theorem sout0_C_3_eq (c : Dev nD) (i) arg1 harg1 arg2 harg2 arg3 harg3 arg4 harg4 arg5 harg5 arg6 harg6 arg7 harg7 arg8 harg8 arg9 harg9 arg10 harg10 arg11 harg11 h0 h1 x0 x1 x2 x3 x4 xs0 xs3 :
    sout0_C_3 (F := Ideal) c i arg1 harg1 arg2 harg2 arg3 harg3 arg4 harg4 arg5 harg5 arg6 harg6 arg7 harg7 arg8 harg8 arg9 harg9 arg10 harg10 arg11 harg11 h0 h1 x0 x1 x2 x3 x4 xs0 xs3 = View.canon (mStores x1 (grp xs0) (wlo x2 x3) (whi x2 x4) xs3) := by
  unfold sout0_C_3
  rw [View.read_writes_eq_canon _ _ _ (fun y => scover0_C_3 _ _ _ _ _ _ _ _ _ _ _ _ _ _ _ _ _ _ _ _ _ _ _ _ _ _ _ _ _ _ _ _ _ y)]
  unfold kernelRun0_C
  dsimp only
  rw [← wlo_C c arg3 harg3 arg4 harg4 arg9 x2 x3, ← whi_C c arg3 harg3 arg5 harg5 arg10 x2 x4]
  refine (show _ = View.canon (mStores (arg2.view.read (Elt Ideal) (harg2.unread x1)) (grp (arg8.view.read (Elt Ideal) (harg8.unread xs0))) (kernelRun0_C.sl.v3077 (F := Ideal) c arg3 harg3 arg4 harg4 arg9 x2 x3) (kernelRun0_C.sl.v3081 c arg3 harg3 arg5 harg5 arg10 x2 x4) (arg11.view.read (Elt Ideal) (harg11.unread xs3))) from rfl).trans ?_
  rw [harg2.read_unread, harg8.read_unread, harg11.read_unread]

/-- What the last point stores for the scale. -/
theorem out0_C_6_eq (c : Dev nD) (i) arg1 harg1 arg2 harg2 arg3 harg3 arg4 harg4 arg5 harg5 arg6 harg6 arg7 harg7 arg8 harg8 arg9 harg9 arg10 harg10 arg11 harg11 h0 h1 x0 x1 x2 x3 x4 xs0 xs3 :
    out0_C_6 (F := Ideal) c i arg1 harg1 arg2 harg2 arg3 harg3 arg4 harg4 arg5 harg5 arg6 harg6 arg7 harg7 arg8 harg8 arg9 harg9 arg10 harg10 arg11 harg11 h0 h1 x0 x1 x2 x3 x4 xs0 xs3 = k0_pay1 (View.canon (mStores x1 (grp xs0) (wlo x2 x3) (whi x2 x4) xs3)) := by
  unfold out0_C_6
  rw [View.read_writes_eq_canon _ _ _ (fun y => cover0_C_6 _ _ _ _ _ _ _ _ _ _ _ _ _ _ _ _ _ _ _ _ _ _ _ _ _ _ _ _ _ _ _ _ _ y)]
  unfold kernelRun0_C
  dsimp only
  refine (View.canon_unit_zero (S := S1920x1) (by decide) _ _).trans (congrArg k0_pay1 ?_)
  rw [← wlo_C c arg3 harg3 arg4 harg4 arg9 x2 x3, ← whi_C c arg3 harg3 arg5 harg5 arg10 x2 x4]
  refine (show _ = arg11.view.readCov (mStores (arg2.view.read (Elt Ideal) (harg2.unread x1)) (grp (arg8.view.read (Elt Ideal) (harg8.unread xs0))) (kernelRun0_C.sl.v3077 (F := Ideal) c arg3 harg3 arg4 harg4 arg9 x2 x3) (kernelRun0_C.sl.v3081 c arg3 harg3 arg5 harg5 arg10 x2 x4) (arg11.view.read (Elt Ideal) (harg11.unread xs3)))
    (Rect.unit (s := S1920x128) ![0, 0] S1920x128.size inb_S1920x128_S1920x128_0_0).toLoadRect from rfl).trans ?_
  rw [harg2.read_unread, harg8.read_unread, harg11.read_unread, View.readCov_eq_canon']
  exact View.ld_unit_zero (S := S1920x128) (by decide) _ _

end Cert.GateupKernelIdeal
-- ==== Proof.Dot.lean ====
module

public import proofs.«01_k».proof.Proof.Dequant

/-! What a dequantised product is over the extended reals, as one sum: the common ground of a kernel and its reference. -/

@[expose] public section

open Idealize Idealize.ShloMosaic Cert.Dequant

namespace Cert.Dot

variable {M K C G SC : Nat}

/-- Row `r` of the int8 codes `A` with row scales `xs`, times column `j` of the 4-bit fields of `W`, whose group scales stand
    in column `s` of `S`. -/
noncomputable def dot (f : BitVec 8 → BitVec 8) (A : Vec Ideal ⟨2, ![M, K]⟩ .i8) (xs : Vec Ideal ⟨2, ![M, 1]⟩ .f32)
    (W : Vec Ideal ⟨2, ![K, C]⟩ .i8) (S : Vec Ideal ⟨2, ![G, SC]⟩ .f32) (hK : K = 32 * G) (r : Fin M) (j : Fin C) (s : Fin SC) : EReal :=
  (∑ k : Fin K, (((A (ix2 r k)).toInt : ℝ) : EReal)
    * ((((f (W (ix2 k j))).toInt : ℝ) : EReal) * S (ix2 (⟨k.val / 32, by omega⟩ : Fin G) s))) * xs (ix2 r 0)

/-- The product with all the columns: the low fields give the first `C` of them, the high fields the others. -/
noncomputable def both (A : Vec Ideal ⟨2, ![M, K]⟩ .i8) (xs : Vec Ideal ⟨2, ![M, 1]⟩ .f32)
    (W : Vec Ideal ⟨2, ![K, C]⟩ .i8) (S : Vec Ideal ⟨2, ![G, SC]⟩ .f32) (hK : K = 32 * G) (hC : SC = 2 * C) (r : Fin M) (j : Fin SC) : EReal :=
  if h : j.val < C then dot loF A xs W S hK r ⟨j.val, h⟩ j else dot hiF A xs W S hK r ⟨j.val - C, by omega⟩ j

/-- A product of magnitude `x`'s row: the scale of the quantiser, `1` for a row of zeros. -/
noncomputable def scale (x : EReal) : EReal := if x = 0 then 1 else Ideal.div x (Ideal.ofBits .f32 1123942400#32)

/-- The low field as the reference takes it: the byte's low four bits, less sixteen where they are eight or more. -/
theorem lo_field (b : BitVec 8) : Scalar.select (IntOp.cmpi .sge (IntOp.andi b 15#8) 8#8) (IntOp.subi (IntOp.andi b 15#8) 16#8) (IntOp.andi b 15#8) = loF b := by
  revert b; decide +kernel

/-- The high field as the reference takes it: the byte's high four bits, less sixteen where they are eight or more. -/
theorem hi_field (b : BitVec 8) : Scalar.select (IntOp.cmpi .sge (BitVec.setWidth 8 (IntOp.shrsi .vector (BitVec.setWidth 32 b) 4#32)) 8#8)
    (IntOp.subi (BitVec.setWidth 8 (IntOp.shrsi .vector (BitVec.setWidth 32 b) 4#32)) 16#8) (BitVec.setWidth 8 (IntOp.shrsi .vector (BitVec.setWidth 32 b) 4#32)) = hiF b := rfl

theorem abs_nonneg (a : EReal) : 0 ≤ max a (-a) := by
  rcases le_total 0 a with h | h
  · exact le_max_of_le_left h
  · exact le_max_of_le_right (by simpa using EReal.neg_le_neg_iff.mpr h)

/-- The largest of each row as a column: the fold of `max` over the row. -/
theorem rowmax_apply {N : Nat} (src : FVec Ideal ⟨2, ![M, N]⟩ .f32) (acc : BitVec 32) (h : (⟨2, ![M, N]⟩ : Shape).Reduces [1] ⟨1, ![M]⟩)
    (hφ : FKind.Formats .f32) (hacc : acc = FKind.maximumf.neutral .f32 hφ) (hc : (⟨1, ![M]⟩ : Shape).ShapeCasts ⟨2, ![M, 1]⟩) (r : Fin M) (j : Fin 1) :
    shapeCast ⟨2, ![M, 1]⟩ (multiReduction .maximumf [1] ⟨1, ![M]⟩ src acc h hφ hacc) hc (ix2 r j)
      = Finset.fold max (Ideal.ofBits .f32 acc) (fun q : Fin N => src (ix2 r q)) Finset.univ := by
  rw [shapeCast_apply _ hc (ix2 r j) (ix1 r) (by
    rw [Shape.rowMajor_val_one, Shape.rowMajor_val_two]
    show r.val = r.val * 1 + j.val
    omega)]
  rw [Ideal.multiReduction_maximumf_single]
  refine congrArg (fun f => Finset.fold max (Ideal.ofBits .f32 acc) f Finset.univ) (funext fun q => congrArg src ?_)
  funext c
  match c with
  | ⟨0, _⟩ => rfl
  | ⟨1, _⟩ => rfl

theorem sitofp_def {φ : FTy} {w : Nat} (b : BitVec w) : FloatOps.sitofp (F := Ideal) φ b = ((b.toInt : ℝ) : EReal) := rfl

theorem absf_def (a : Ideal .f32) : FloatOps.absf a = max a (-a) := rfl

/-- The quantiser's scale of a column of magnitudes: `1` for zero. -/
theorem scale_apply (v : FVec Ideal ⟨2, ![M, 1]⟩ .f32) (i : (⟨2, ![M, 1]⟩ : Shape).Idx) :
    select (cmpf .oeq v (broadcast ⟨2, ![M, 1]⟩ (Scalar.ofBits .f32 0x00000000#32))) (broadcast ⟨2, ![M, 1]⟩ (Scalar.ofBits .f32 0x3F800000#32))
      (divf v (broadcast ⟨2, ![M, 1]⟩ (Scalar.ofBits .f32 0x42FE0000#32))) i = scale (v i) := by
  unfold scale
  pointwise []

end Cert.Dot
-- ==== Proof.GateupRef.lean ====
module

public import proofs.«01_k».proof.Proof.Dot
public import proofs.«01_k».proof.Proof.Gen.GateupReferenceIdeal.Value

/-! The gate/up reference's two results, element by element. -/

@[expose] public section

open Idealize Idealize.ShloMosaic Cert.Dequant Cert.Dot

namespace Cert.Gateup

/-- `h` at row `r` and column `j`: the gate from the low fields, the product with the high fields, and the gate's logistic. -/
noncomputable def hval (a0 : Vec Ideal ⟨2, ![1920, 3072]⟩ .i8) (a1 : Vec Ideal ⟨2, ![1920, 1]⟩ .f32)
    (a2 : Vec Ideal ⟨2, ![3072, 8192]⟩ .i8) (a3 : Vec Ideal ⟨2, ![96, 16384]⟩ .f32) (r : Fin 1920) (j : Fin 8192) : EReal :=
  dot hiF a0 a1 a2 a3 rfl r j ⟨8192 + j.val, by omega⟩ * dot loF a0 a1 a2 a3 rfl r j ⟨j.val, by omega⟩
    * Ideal.logistic (dot loF a0 a1 a2 a3 rfl r j ⟨j.val, by omega⟩)

end Cert.Gateup

namespace Cert.GateupReferenceIdeal
open Gen Cert.Gateup Value

theorem gate_apply (a0 : Vec Ideal S1920x3072 .i8) (a1 : Vec Ideal S1920x1 .f32) (a2 : Vec Ideal S3072x8192 .i8) (a3 : Vec Ideal S96x16384 .f32)
    (r : Fin 1920) (j : Fin 8192) : k0_pay6 a0 a1 a2 a3 (ix2 r j) = dot loF a0 a1 a2 a3 rfl r j ⟨j.val, by omega⟩ := by
  pointwise [k0_pay6, k0_pay4, k0_pay3]
  unfold dot
  simp only [sitofp_def, lo_field]

theorem up_apply (a0 : Vec Ideal S1920x3072 .i8) (a1 : Vec Ideal S1920x1 .f32) (a2 : Vec Ideal S3072x8192 .i8) (a3 : Vec Ideal S96x16384 .f32)
    (r : Fin 1920) (j : Fin 8192) : k0_pay7 a0 a1 a2 a3 (ix2 r j)
      = dot hiF a0 a1 a2 a3 rfl r j ⟨8192 + j.val, by omega⟩ * dot loF a0 a1 a2 a3 rfl r j ⟨j.val, by omega⟩ := by
  pointwise [k0_pay7, k0_pay5, k0_pay4, k0_pay3]
  unfold dot
  simp only [sitofp_def, lo_field, hi_field]

theorem pay1_apply (g u : Vec Ideal S1920x8192 .f32) (r : Fin 1920) (j : Fin 8192) : k0_pay1 (F := Ideal) g u (ix2 r j)
      = u (ix2 r j) * Ideal.logistic (g (ix2 r j)) := by
  pointwise [k0_pay1]

theorem pay2_apply (g u : Vec Ideal S1920x8192 .f32) (r : Fin 1920) (j : Fin 1) : k0_pay2 (F := Ideal) g u (ix2 r j)
      = scale (Finset.fold max (Ideal.ofBits .f32 4286578688#32)
          (fun c : Fin 8192 => max (u (ix2 r c) * Ideal.logistic (g (ix2 r c))) (-(u (ix2 r c) * Ideal.logistic (g (ix2 r c))))) Finset.univ) := by
  unfold k0_pay2
  dsimp only
  refine (scale_apply _ _).trans (congrArg scale ?_)
  refine (rowmax_apply _ _ _ _ _ _ r j).trans ?_
  refine congrArg (fun f => Finset.fold max (Ideal.ofBits .f32 4286578688#32) f Finset.univ) (funext fun c => ?_)
  refine (absf_def _).trans ?_
  rw [pay1_apply]

theorem G5_apply (a0 : Vec Ideal S1920x3072 .i8) (a1 : Vec Ideal S1920x1 .f32) (a2 : Vec Ideal S3072x8192 .i8) (a3 : Vec Ideal S96x16384 .f32) (r : Fin 1920) (j : Fin 1) :
    Value.G5 a0 a1 a2 a3 (ix2 r j)
      = scale (Finset.fold max (Ideal.ofBits .f32 4286578688#32) (fun c : Fin 8192 => max (hval a0 a1 a2 a3 r c) (-(hval a0 a1 a2 a3 r c))) Finset.univ) := by
  refine (pay2_apply _ _ r j).trans (congrArg scale (congrArg (fun f => Finset.fold max (Ideal.ofBits .f32 4286578688#32) f Finset.univ) (funext fun c => ?_)))
  unfold hval
  rw [gate_apply, up_apply]

theorem G4_apply (a0 : Vec Ideal S1920x3072 .i8) (a1 : Vec Ideal S1920x1 .f32) (a2 : Vec Ideal S3072x8192 .i8) (a3 : Vec Ideal S96x16384 .f32) (r : Fin 1920) (j : Fin 8192) :
    Value.G4 a0 a1 a2 a3 (ix2 r j) = hval a0 a1 a2 a3 r j := by
  refine (pay1_apply _ _ r j).trans ?_
  unfold hval
  rw [gate_apply, up_apply]

end Cert.GateupReferenceIdeal
-- ==== Proof.GateupPoint.lean ====
module

public import proofs.«01_k».proof.Proof.Gateup
public import proofs.«01_k».proof.Proof.Dot
public import proofs.«01_k».proof.Proof.GateupRef

/-! What one grid point of the gate/up kernel computes, element by element. -/

@[expose] public section

open Idealize Idealize.ShloMosaic Cert.Dequant Cert.Rows Cert.Dot

namespace Cert.GateupKernelIdeal
open Gen Cert.Gateup

open Cert.GateupKernelIdeal.Value Idealize.ShloMosaic.TcCoe

variable (m : (ℓ : Loc nD τ sig) → Buf (Elt Ideal) ℓ)

theorem idx : ∀ t : Fin cfg0.N, win0_0.index t = ![0, 0] ∧ win0_1.index t = ![0, 0] ∧ win0_2.index t = ![0, t.val] ∧ win0_3.index t = ![0, t.val]
    ∧ win0_4.index t = ![0, 32 + t.val] :=
  (by decide +kernel : ∀ t : Fin grid0.N, _)

theorem iblk0 (c : Dev nD) (t : Fin cfg0.N) : iblk m c 0 t = m ((c : Thread nD τ).loc main_arg0) := by
  blk_ext! [iblk, V, idx t]
theorem iblk1 (c : Dev nD) (t : Fin cfg0.N) : iblk m c 1 t = m ((c : Thread nD τ).loc main_arg1) := by
  blk_ext! [iblk, V, idx t]
theorem iblk2 (c : Dev nD) (t : Fin cfg0.N) (ht : t.val < 32) (k : Fin 3072) (l : Fin 256) :
    iblk m c 2 t (ix2 k l) = m ((c : Thread nD τ).loc main_arg2) (ix2 k (⟨256 * t.val + l.val, by omega⟩ : Fin 8192)) := by
  blk_ext [iblk, V, idx t]
theorem iblk3 (c : Dev nD) (t : Fin cfg0.N) (ht : t.val < 32) (k : Fin 96) (l : Fin 256) :
    iblk m c 3 t (ix2 k l) = m ((c : Thread nD τ).loc main_arg3) (ix2 k (⟨256 * t.val + l.val, by omega⟩ : Fin 16384)) := by
  blk_ext [iblk, V, idx t]
theorem iblk4 (c : Dev nD) (t : Fin cfg0.N) (ht : t.val < 32) (k : Fin 96) (l : Fin 256) :
    iblk m c 4 t (ix2 k l) = m ((c : Thread nD τ).loc main_arg3) (ix2 k (⟨8192 + (256 * t.val + l.val), by omega⟩ : Fin 16384)) := by
  blk_ext [iblk, V, idx t]

/-- `hval` of the launched arrays. -/
noncomputable abbrev hv (c : Dev nD) (r : Fin 1920) (j : Fin 8192) : EReal :=
  hval (m ((c : Thread nD τ).loc main_arg0)) (m ((c : Thread nD τ).loc main_arg1)) (m ((c : Thread nD τ).loc main_arg2)) (m ((c : Thread nD τ).loc main_arg3)) r j

/-- The codes as numbers. -/
noncomputable abbrev codes (c : Dev nD) : Vec Ideal S1920x3072 .bf16 := k0_pay2 (F := Ideal) (m ((c : Thread nD τ).loc main_arg0))

theorem pay402_apply (xs : Vec Ideal S384x1 .f32) (xb : Vec Ideal S384x3072 .bf16) (wl wh : Vec Ideal S3072x256 .bf16) (p : Fin 384) (j : Fin 256) :
    k0_pay402 (F := Ideal) xs xb wl wh (ix2 p j)
      = (∑ x : Fin 3072, xb (ix2 p x) * wh (ix2 x j)) * xs (ix2 p 0) * ((∑ x : Fin 3072, xb (ix2 p x) * wl (ix2 x j)) * xs (ix2 p 0))
        * Ideal.logistic ((∑ x : Fin 3072, xb (ix2 p x) * wl (ix2 x j)) * xs (ix2 p 0)) := by
  pointwise [k0_pay402]

theorem pay411_apply (h : Vec Ideal S384x256 .f32) (a : Vec Ideal S384x128 .f32) (p : Fin 384) (j : Fin 128) :
    k0_pay411 (F := Ideal) h a (ix2 p j) = max (a (ix2 p j)) (max (max (h (ix2 p ⟨j.val, by omega⟩)) (-(h (ix2 p ⟨j.val, by omega⟩))))
      (max (h (ix2 p ⟨128 + j.val, by omega⟩)) (-(h (ix2 p ⟨128 + j.val, by omega⟩))))) := by
  pointwise [k0_pay411]
  simp only [Ideal.absf_def]

theorem pay1_apply (a : Vec Ideal S1920x128 .f32) (r : Fin 1920) (j : Fin 1) :
    k0_pay1 (F := Ideal) a (ix2 r j) = scale (Finset.fold max (Ideal.ofBits .f32 4286578688#32) (fun q : Fin 128 => a (ix2 r q)) Finset.univ) := by
  unfold scale
  pointwise [k0_pay1]

theorem codes_apply (x : Vec Ideal S1920x3072 .i8) (r : Fin 1920) (k : Fin 3072) : k0_pay2 (F := Ideal) x (ix2 r k) = (((x (ix2 r k)).toInt : ℝ) : EReal) := by
  unfold k0_pay2
  rw [shapeCast_self]
  rfl

/-- A point's product with the unpacked fields is the launched arrays' product. -/
theorem lo_dot (c : Dev nD) (t : Fin cfg0.N) (ht : t.val < 32) (r : Fin 1920) (l : Fin 256) :
    (∑ x : Fin 3072, codes m c (ix2 r x) * wlo (iblk m c 2 t) (iblk m c 3 t) (ix2 x l)) * m ((c : Thread nD τ).loc main_arg1) (ix2 r 0)
      = dot loF (m ((c : Thread nD τ).loc main_arg0)) (m ((c : Thread nD τ).loc main_arg1)) (m ((c : Thread nD τ).loc main_arg2))
          (m ((c : Thread nD τ).loc main_arg3)) rfl r (⟨256 * t.val + l.val, by omega⟩ : Fin 8192) ⟨256 * t.val + l.val, by omega⟩ := by
  unfold dot
  simp only [codes_apply, wlo_apply, iblk2 m c t ht, iblk3 m c t ht]

theorem hi_dot (c : Dev nD) (t : Fin cfg0.N) (ht : t.val < 32) (r : Fin 1920) (l : Fin 256) :
    (∑ x : Fin 3072, codes m c (ix2 r x) * whi (iblk m c 2 t) (iblk m c 4 t) (ix2 x l)) * m ((c : Thread nD τ).loc main_arg1) (ix2 r 0)
      = dot hiF (m ((c : Thread nD τ).loc main_arg0)) (m ((c : Thread nD τ).loc main_arg1)) (m ((c : Thread nD τ).loc main_arg2))
          (m ((c : Thread nD τ).loc main_arg3)) rfl r (⟨256 * t.val + l.val, by omega⟩ : Fin 8192) ⟨8192 + (256 * t.val + l.val), by omega⟩ := by
  unfold dot
  simp only [codes_apply, whi_apply, iblk2 m c t ht, iblk4 m c t ht]

/-- Row group `g` of what point `t` computes: `hval` at the group's row and the point's column. -/
theorem hRows_apply (c : Dev nD) (t : Fin cfg0.N) (ht : t.val < 32) (g : Nat) (hg : 384 * g + 384 ≤ 1920) (p : Fin 384) (l : Fin 256) :
    hRows (iblk m c 1 t) (grp (codes m c)) (wlo (iblk m c 2 t) (iblk m c 3 t)) (whi (iblk m c 2 t) (iblk m c 4 t)) g hg (ix2 p l)
      = hv m c ⟨384 * g + p.val, by omega⟩ ⟨256 * t.val + l.val, by omega⟩ := by
  unfold hRows hv hval
  rw [pay402_apply, iblk1, ld_rows]
  rw [← lo_dot m c t ht, ← hi_dot m c t ht]
  have e : ∀ x : Fin 3072, grp (codes m c) g hg (ix2 p x) = codes m c (ix2 (⟨384 * g + p.val, by omega⟩ : Fin 1920) x) := fun x => ld_rows _ g hg p x
  simp only [e]

/-- What point `t` stores for `h`, at a row and a column of the block. -/
theorem hBlock_apply (c : Dev nD) (t : Fin cfg0.N) (ht : t.val < 32) (r : Fin 1920) (l : Fin 256) :
    hBlock (iblk m c 1 t) (grp (codes m c)) (wlo (iblk m c 2 t) (iblk m c 3 t)) (whi (iblk m c 2 t) (iblk m c 4 t)) (ix2 r l)
      = hv m c r ⟨256 * t.val + l.val, by omega⟩ := by
  have hg : 384 * (r.val / 384) + 384 ≤ 1920 := by omega
  have er : r = (⟨384 * (r.val / 384) + r.val % 384, by omega⟩ : Fin 1920) := Fin.ext (by show r.val = 384 * (r.val / 384) + r.val % 384; omega)
  rw [er]
  exact (stores_apply [] _ (r.val / 384) hg (⟨r.val % 384, by omega⟩ : Fin 384) l 5 (by decide) (by omega)).trans
    (hRows_apply m c t ht (r.val / 384) hg ⟨r.val % 384, by omega⟩ l)

/-- The magnitude of `h` at a row and a column. -/
noncomputable abbrev mag (c : Dev nD) (r : Fin 1920) (j : Fin 8192) : EReal := max (hv m c r j) (-(hv m c r j))

/-- What a row group's maxima become: the larger of what was there and of the block's two halves' magnitudes. -/
theorem mRow (c : Dev nD) (t : Fin cfg0.N) (ht : t.val < 32) (g : Nat) (hg : 384 * g + 384 ≤ 1920) (a : Vec Ideal S384x128 .f32) (p : Fin 384) (l : Fin 128) :
    k0_pay411 (F := Ideal) (hRows (iblk m c 1 t) (grp (codes m c)) (wlo (iblk m c 2 t) (iblk m c 3 t)) (whi (iblk m c 2 t) (iblk m c 4 t)) g hg) a (ix2 p l)
      = max (a (ix2 p l)) (max (mag m c ⟨384 * g + p.val, by omega⟩ ⟨256 * t.val + l.val, by omega⟩)
          (mag m c ⟨384 * g + p.val, by omega⟩ ⟨256 * t.val + (128 + l.val), by omega⟩)) := by
  rw [pay411_apply, hRows_apply m c t ht, hRows_apply m c t ht]

theorem mStores_apply (c : Dev nD) (t : Fin cfg0.N) (ht : t.val < 32) (acc : Vec Ideal S1920x128 .f32) (r : Fin 1920) (l : Fin 128) :
    View.canon (mStores (iblk m c 1 t) (grp (codes m c)) (wlo (iblk m c 2 t) (iblk m c 3 t)) (whi (iblk m c 2 t) (iblk m c 4 t)) acc) (ix2 r l)
      = max (acc (ix2 r l)) (max (mag m c r ⟨256 * t.val + l.val, by omega⟩) (mag m c r ⟨256 * t.val + (128 + l.val), by omega⟩)) := by
  have hg : 384 * (r.val / 384) + 384 ≤ 1920 := by omega
  have er : r = (⟨384 * (r.val / 384) + r.val % 384, by omega⟩ : Fin 1920) := Fin.ext (by show r.val = 384 * (r.val / 384) + r.val % 384; omega)
  rw [er]
  refine (stores_apply [] _ (r.val / 384) hg (⟨r.val % 384, by omega⟩ : Fin 384) l 5 (by decide) (by omega)).trans ?_
  refine (mRow m c t ht (r.val / 384) hg _ ⟨r.val % 384, by omega⟩ l).trans ?_
  rw [ld_rows]

theorem mFirst_apply (c : Dev nD) (t : Fin cfg0.N) (ht : t.val < 32) (v) (r : Fin 1920) (l : Fin 128) :
    mFirst (iblk m c 1 t) (grp (codes m c)) (wlo (iblk m c 2 t) (iblk m c 3 t)) (whi (iblk m c 2 t) (iblk m c 4 t)) v (ix2 r l)
      = max 0 (max (mag m c r ⟨256 * t.val + l.val, by omega⟩) (mag m c r ⟨256 * t.val + (128 + l.val), by omega⟩)) := by
  have hg : 384 * (r.val / 384) + 384 ≤ 1920 := by omega
  have er : r = (⟨384 * (r.val / 384) + r.val % 384, by omega⟩ : Fin 1920) := Fin.ext (by show r.val = 384 * (r.val / 384) + r.val % 384; omega)
  rw [er]
  refine (updates_apply _ v _ (r.val / 384) hg (⟨r.val % 384, by omega⟩ : Fin 384) l 5 (by decide) (by omega)).trans ?_
  refine (mRow m c t ht (r.val / 384) hg _ ⟨r.val % 384, by omega⟩ l).trans ?_
  rw [ld_rows, View.canon_unit_zero (S := S1920x128) (by decide)]
  refine congrArg (fun q => max q _) ?_
  pointwise [k0_pay3]

end Cert.GateupKernelIdeal
-- ==== Proof.GateupValue.lean ====
module

public import proofs.«01_k».proof.Proof.GateupPoint

/-! The gate/up kernel's two results are the reference's. -/

@[expose] public section

open Idealize Idealize.ShloMosaic Cert.Dequant Cert.Rows Cert.Dot

namespace Cert.GateupKernelIdeal
open Gen Cert.Gateup
open Cert.GateupKernelIdeal.Value Idealize.ShloMosaic.TcCoe

variable (m : (ℓ : Loc nD τ sig) → Buf (Elt Ideal) ℓ)

/-- What the points up to `n` leave: the point's own block of `h`, the codes, and the maxima, which bound exactly what zero and
    the magnitudes of the columns up to the point's bound. -/
def Inv (c : Dev nD) (n : Nat) (hn : n < cfg0.N) : Prop :=
  (∀ (r : Fin 1920) (l : Fin 256) (j : Fin 8192), j.val = 256 * n + l.val → (outsAt0 m c n hn).1 (ix2 r l) = hv m c r j)
  ∧ (outsAt0 m c n hn).2.2.1 = codes m c
  ∧ ∀ (r : Fin 1920) (l : Fin 128) (x : EReal), (outsAt0 m c n hn).2.2.2 (ix2 r l) ≤ x
      ↔ 0 ≤ x ∧ ∀ j : Fin 8192, j.val < 256 * (n + 1) → j.val % 128 = l.val → mag m c r j ≤ x

/-- A bound of the columns before a block and of the block's two columns of a lane bounds the columns through the block. -/
theorem bound_step (f : Fin 8192 → EReal) (x : EReal) (n : Nat) (hn : n < 32) (l : Fin 128) :
    ((∀ j : Fin 8192, j.val < 256 * n → j.val % 128 = l.val → f j ≤ x) ∧ f ⟨256 * n + l.val, by omega⟩ ≤ x ∧ f ⟨256 * n + (128 + l.val), by omega⟩ ≤ x)
      ↔ ∀ j : Fin 8192, j.val < 256 * (n + 1) → j.val % 128 = l.val → f j ≤ x := by
  constructor
  · rintro ⟨h1, h2, h3⟩ j hj hl
    rcases lt_or_ge j.val (256 * n) with h | h
    · exact h1 j h hl
    · rcases (by omega : j.val = 256 * n + l.val ∨ j.val = 256 * n + (128 + l.val)) with e | e
      · rw [show j = ⟨256 * n + l.val, by omega⟩ from Fin.ext e]; exact h2
      · rw [show j = ⟨256 * n + (128 + l.val), by omega⟩ from Fin.ext e]; exact h3
  · intro h
    exact ⟨fun j hj hl => h j (by omega) hl, h _ (by show 256 * n + l.val < _; omega) (by show (256 * n + l.val) % 128 = _; omega),
      h _ (by show 256 * n + (128 + l.val) < _; omega) (by show (256 * n + (128 + l.val)) % 128 = _; omega)⟩

theorem inv (c : Dev nD) : ∀ (n : Nat) (hn : n < cfg0.N), Inv m c n hn
  | 0, hn => by
    have h0 : (⟨0, hn⟩ : Fin cfg0.N).val % 32 = 0 := rfl
    have h1 : ¬ (⟨0, hn⟩ : Fin cfg0.N).val % 32 = 31 := by show ¬ 0 % 32 = 31; decide
    unfold Inv
    rw [outsAt0_zero, stAt0_A m c ⟨0, hn⟩ junk0 h0 h1]
    dsimp only
    rw [out0_A_5_eq, sout0_A_0_eq, sout0_A_3_eq, iblk0]
    refine ⟨fun r l j hj => ?_, rfl, fun r l x => ?_⟩
    · refine (hBlock_apply m c ⟨0, hn⟩ (Nat.zero_lt_succ 31) r l).trans (congrArg (hv m c r) (Fin.ext hj.symm))
    · rw [mFirst_apply m c ⟨0, hn⟩ (Nat.zero_lt_succ 31), max_le_iff, max_le_iff, ← bound_step (mag m c r) x 0 (by decide) l]
      simp
  | n + 1, hn => by
    have hN : n + 1 < 32 := lt_of_lt_of_eq hn N_0
    obtain ⟨-, i2, i3⟩ := inv c n (Nat.lt_of_succ_lt hn)
    have h0 : ¬ (⟨n + 1, hn⟩ : Fin cfg0.N).val % 32 = 0 := by show ¬ (n + 1) % 32 = 0; omega
    unfold Inv
    rw [outsAt0_succ]
    by_cases h1 : (⟨n + 1, hn⟩ : Fin cfg0.N).val % 32 = 31
    all_goals
      first | rw [stAt0_C m c ⟨n + 1, hn⟩ _ h0 h1] | rw [stAt0_B m c ⟨n + 1, hn⟩ _ h0 h1]
      dsimp only
      first | rw [out0_C_5_eq, sout0_C_3_eq] | rw [out0_B_5_eq, sout0_B_3_eq]
      rw [i2]
      refine ⟨fun r l j hj => ?_, ?_, fun r l x => ?_⟩
      · refine (hBlock_apply m c ⟨n + 1, hn⟩ hN r l).trans (congrArg (hv m c r) (Fin.ext hj.symm))
      · first | exact i2 | rfl
      · rw [mStores_apply m c ⟨n + 1, hn⟩ hN, max_le_iff, max_le_iff, ← bound_step (mag m c r) x (n + 1) hN l, i3, and_assoc]

/-- The scale the last point stores. -/
theorem last_scale (c : Dev nD) (hn : 31 < cfg0.N) (r : Fin 1920) (j : Fin 1) :
    (outsAt0 m c 31 hn).2.1 (ix2 r j) = scale (Finset.fold max (Ideal.ofBits .f32 4286578688#32) (fun q : Fin 8192 => mag m c r q) Finset.univ) := by
  have h0 : ¬ (⟨31, hn⟩ : Fin cfg0.N).val % 32 = 0 := by show ¬ 31 % 32 = 0; decide
  have h1 : (⟨31, hn⟩ : Fin cfg0.N).val % 32 = 31 := rfl
  obtain ⟨-, -, i3⟩ := inv m c 31 hn
  have e : (outsAt0 m c 31 hn).2.1 = k0_pay1 (outsAt0 m c 31 hn).2.2.2 := by
    rw [show outsAt0 m c 31 hn = stAt0 m c 31 hn (outsAt0 m c 30 (Nat.lt_of_succ_lt hn)) from outsAt0_succ m c 30 hn, stAt0_C m c ⟨31, hn⟩ _ h0 h1]
    dsimp only
    rw [out0_C_6_eq, sout0_C_3_eq]
  rw [e]
  generalize (outsAt0 m c 31 hn).2.2.2 = M at i3
  have e2 : Finset.fold max (Ideal.ofBits .f32 4286578688#32) (fun q : Fin 128 => M (ix2 r q)) Finset.univ
      = Finset.fold max (Ideal.ofBits .f32 4286578688#32) (fun q : Fin 8192 => mag m c r q) Finset.univ := by
    refine eq_of_forall_ge_iff fun x => ?_
    rw [Finset.fold_max_le, Finset.fold_max_le]
    refine and_congr_right fun _ => ⟨fun h q _ => ?_, fun h l _ => ?_⟩
    · exact ((i3 r ⟨q.val % 128, by omega⟩ x).mp (h _ (Finset.mem_univ _))).2 q (by omega) rfl
    · exact (i3 r l x).mpr ⟨(abs_nonneg _).trans (h 0 (Finset.mem_univ _)), fun q _ _ => h q (Finset.mem_univ _)⟩
  rw [← e2]
  exact pay1_apply M r j

/-- The kernel's first result is the reference's. -/
theorem G5_eq (c : Dev nD) : Value.G5 m c = Cert.GateupReferenceIdeal.Value.G4 (m ((c : Thread nD τ).loc main_arg0)) (m ((c : Thread nD τ).loc main_arg1))
    (m ((c : Thread nD τ).loc main_arg2)) (m ((c : Thread nD τ).loc main_arg3)) := by
  refine funext fun (i : S1920x8192.Idx) => ?_
  obtain ⟨r, j, rfl⟩ : ∃ r j, i = ix2 r j := ⟨i 0, i 1, eq_ix2 i⟩
  have hp : pt5Of (ix2 r j) = j.val / 256 := by
    show 32 * (r.val / 1920 - 0) + 1 * (j.val / 256 - 0) = _
    omega
  have hb : j.val / 256 < cfg0.N := lt_of_lt_of_eq (by omega) N_0.symm
  refine Eq.trans ?_ (Cert.GateupReferenceIdeal.G4_apply _ _ _ _ r j).symm
  unfold Value.G5
  rw [dif_pos (by rw [hp]; exact hb), ← outsAt0_sweep m c (pt5Of (ix2 r j)) (by rw [hp]; exact hb)]
  have el : loc5Of (ix2 r j) = ix2 r (⟨j.val % 256, by omega⟩ : Fin 256) := by
    funext a
    match a with
    | ⟨0, _⟩ => exact Fin.ext (by show r.val % 1920 = r.val; omega)
    | ⟨1, _⟩ => rfl
  rw [el]
  exact (inv m c _ _).1 r _ j (by rw [hp]; show j.val = 256 * (j.val / 256) + j.val % 256; omega)

/-- The kernel's second result is the reference's. -/
theorem G6_eq (c : Dev nD) : Value.G6 m c = Cert.GateupReferenceIdeal.Value.G5 (m ((c : Thread nD τ).loc main_arg0)) (m ((c : Thread nD τ).loc main_arg1))
    (m ((c : Thread nD τ).loc main_arg2)) (m ((c : Thread nD τ).loc main_arg3)) := by
  rw [G6_last, ← outsAt0_sweep m c 31 (lt_of_lt_of_eq (by decide) N_0.symm)]
  refine funext fun (i : S1920x1.Idx) => ?_
  obtain ⟨r, j, rfl⟩ : ∃ r j, i = ix2 r j := ⟨i 0, i 1, eq_ix2 i⟩
  exact (last_scale m c _ r j).trans (Cert.GateupReferenceIdeal.G5_apply _ _ _ _ r j).symm

end Cert.GateupKernelIdeal
-- ==== Proof.Norm.lean ====
module

public import proofs.«01_k».proof.Proof.Dot

/-! The root-mean-square norm of each row and the int8 quantiser of each row, at any number of rows and columns: the vector
    operations the kernels and the references print, read at an index as functions of the row alone. -/

@[expose] public section

open Idealize Idealize.ShloMosaic Cert.Dot

namespace Cert.Norm

variable {M N : Nat}

/-- A column spread over the columns reads the column. -/
theorem bcol_apply {α : Type} (x : (⟨2, ![M, 1]⟩ : Shape).Idx → α) (h : (⟨2, ![M, 1]⟩ : Shape).Broadcasts ⟨2, ![M, N]⟩) (r : Fin M) (j : Fin N) :
    broadcastTo ⟨2, ![M, N]⟩ x h (ix2 r j) = x (ix2 r 0) := by
  refine congrArg x (funext fun a => ?_)
  match a with
  | ⟨0, _⟩ =>
    by_cases h1 : M = 1
    · subst h1; exact Subsingleton.elim (α := Fin 1) _ _
    · exact Fin.ext (congrArg Fin.val (dif_neg (show ¬ (![M, 1] : Fin 2 → Nat) 0 = 1 from h1)))
  | ⟨1, _⟩ => exact Subsingleton.elim (α := Fin 1) _ _

/-- A row spread over the rows reads the row. -/
theorem brow_apply {α : Type} (x : (⟨2, ![1, N]⟩ : Shape).Idx → α) (h : (⟨2, ![1, N]⟩ : Shape).Broadcasts ⟨2, ![M, N]⟩) (r : Fin M) (j : Fin N) :
    broadcastTo ⟨2, ![M, N]⟩ x h (ix2 r j) = x (ix2 0 j) := by
  refine congrArg x (funext fun a => ?_)
  match a with
  | ⟨0, _⟩ => exact Subsingleton.elim (α := Fin 1) _ _
  | ⟨1, _⟩ =>
    by_cases h1 : N = 1
    · subst h1; exact Subsingleton.elim (α := Fin 1) _ _
    · exact Fin.ext (congrArg Fin.val (dif_neg (show ¬ (![1, N] : Fin 2 → Nat) 1 = 1 from h1)))

/-- The sum of each row as a column. -/
theorem rowsum_apply (src : FVec Ideal ⟨2, ![M, N]⟩ .f32) (h : (⟨2, ![M, N]⟩ : Shape).Reduces [1] ⟨1, ![M]⟩)
    (hφ : FKind.Formats .f32) (hacc : 0x00000000#32 = FKind.add.neutral .f32 hφ) (hc : (⟨1, ![M]⟩ : Shape).ShapeCasts ⟨2, ![M, 1]⟩) (r : Fin M) (j : Fin 1) :
    shapeCast ⟨2, ![M, 1]⟩ (multiReduction .add [1] ⟨1, ![M]⟩ src 0x00000000#32 h hφ hacc) hc (ix2 r j)
      = ∑ q : Fin N, src (ix2 r q) := by
  rw [shapeCast_apply _ hc (ix2 r j) (ix1 r) (by
    rw [Shape.rowMajor_val_one, Shape.rowMajor_val_two]
    show r.val = r.val * 1 + j.val
    omega)]
  rw [Ideal.multiReduction_add_single]
  refine Finset.sum_congr rfl fun q _ => congrArg src ?_
  funext c
  match c with
  | ⟨0, _⟩ => rfl
  | ⟨1, _⟩ => rfl

/-- The largest of each row: the fold of `max` over the row. -/
theorem rowmax1_apply (src : FVec Ideal ⟨2, ![M, N]⟩ .f32) (acc : BitVec 32) (h : (⟨2, ![M, N]⟩ : Shape).Reduces [1] ⟨1, ![M]⟩)
    (hφ : FKind.Formats .f32) (hacc : acc = FKind.maximumf.neutral .f32 hφ) (r : Fin M) :
    multiReduction .maximumf [1] ⟨1, ![M]⟩ src acc h hφ hacc (ix1 r)
      = Finset.fold max (Ideal.ofBits .f32 acc) (fun q : Fin N => src (ix2 r q)) Finset.univ := by
  rw [Ideal.multiReduction_maximumf_single]
  refine congrArg (fun f => Finset.fold max (Ideal.ofBits .f32 acc) f Finset.univ) (funext fun q => congrArg src ?_)
  funext c
  match c with
  | ⟨0, _⟩ => rfl
  | ⟨1, _⟩ => rfl

/-- A list as a column. -/
theorem ascol_apply {α : Type} (x : (⟨1, ![M]⟩ : Shape).Idx → α) (hc : (⟨1, ![M]⟩ : Shape).ShapeCasts ⟨2, ![M, 1]⟩) (r : Fin M) (j : Fin 1) :
    shapeCast ⟨2, ![M, 1]⟩ x hc (ix2 r j) = x (ix1 r) :=
  shapeCast_apply _ hc (ix2 r j) (ix1 r) (by
    rw [Shape.rowMajor_val_one, Shape.rowMajor_val_two]
    show r.val = r.val * 1 + j.val
    omega)

/-- The quantiser's scales of largest magnitudes. -/
def scaleOf {F : FTy → Type} [FloatOps F] {s : Shape} (a : FVec F s .f32) : FVec F s .f32 :=
  select (cmpf .oeq a (broadcast s (Scalar.ofBits .f32 0x00000000#32))) (broadcast s (Scalar.ofBits .f32 0x3F800000#32))
    (divf a (broadcast s (Scalar.ofBits .f32 0x42FE0000#32)))

theorem scaleOf_apply {s : Shape} (a : FVec Ideal s .f32) (i : s.Idx) : scaleOf a i = scale (a i) :=
  Dot.scale_apply (M := 1) (fun _ => a i) (ix2 0 0)

/-- The shape facts the row operations ask for. -/
structure RowOps (M N : Nat) : Prop where
  red : (⟨2, ![M, N]⟩ : Shape).Reduces [1] ⟨1, ![M]⟩
  cast : (⟨1, ![M]⟩ : Shape).ShapeCasts ⟨2, ![M, 1]⟩
  col : (⟨2, ![M, 1]⟩ : Shape).Broadcasts ⟨2, ![M, N]⟩
  row : (⟨2, ![1, N]⟩ : Shape).Broadcasts ⟨2, ![M, N]⟩

section Trees
variable {F : FTy → Type} [FloatOps F] (H : RowOps M N)

/-- Each row over the root of its mean square, by the gains: `d` holds the number of columns, `eps` what is added. -/
def norm (d eps : BitVec 32) (x : FVec F ⟨2, ![M, N]⟩ .f32) (g : FVec F ⟨2, ![1, N]⟩ .f32) : FVec F ⟨2, ![M, N]⟩ .f32 :=
  mulf (divf x (broadcastTo ⟨2, ![M, N]⟩ (sqrt (addf (divf (shapeCast ⟨2, ![M, 1]⟩ (multiReduction .add [1] ⟨1, ![M]⟩ (mulf x x) 0x00000000#32 H.red (.inl rfl) rfl) H.cast)
    (broadcast ⟨2, ![M, 1]⟩ (Scalar.ofBits .f32 d))) (broadcast ⟨2, ![M, 1]⟩ (Scalar.ofBits .f32 eps)))) H.col)) (broadcastTo ⟨2, ![M, N]⟩ g H.row)

/-- The quantiser's scale of each row. -/
def scales (v : FVec F ⟨2, ![M, N]⟩ .f32) : FVec F ⟨2, ![M, 1]⟩ .f32 :=
  scaleOf (shapeCast ⟨2, ![M, 1]⟩ (multiReduction .maximumf [1] ⟨1, ![M]⟩ (absf v) 0xFF800000#32 H.red (.inl rfl) rfl) H.cast)

/-- The same as a list. -/
def scales1 (v : FVec F ⟨2, ![M, N]⟩ .f32) : FVec F ⟨1, ![M]⟩ .f32 :=
  scaleOf (multiReduction .maximumf [1] ⟨1, ![M]⟩ (absf v) 0xFF800000#32 H.red (.inl rfl) rfl)

/-- The int8 codes of rows with given scales. -/
def codesOf (v : FVec F ⟨2, ![M, N]⟩ .f32) (s : FVec F ⟨2, ![M, 1]⟩ .f32) : IVec ⟨2, ![M, N]⟩ 8 :=
  fptosi 8 (minimumf (broadcast ⟨2, ![M, N]⟩ (Scalar.sitofp .f32 127#32)) (maximumf (broadcast ⟨2, ![M, N]⟩ (Scalar.sitofp .f32 4294967169#32))
    (roundeven (divf v (broadcastTo ⟨2, ![M, N]⟩ s H.col)))))

end Trees

/-- One element of a normed row. -/
noncomputable def nrm (d eps : BitVec 32) (x g : Fin N → EReal) (j : Fin N) : Ideal .f32 :=
  FloatOps.mulf (F := Ideal) (FloatOps.divf (x j) (FloatOps.sqrt (FloatOps.addf (FloatOps.divf (φ := .f32) (∑ q : Fin N, x q * x q) (Scalar.ofBits (F := Ideal) .f32 d)) (Scalar.ofBits (F := Ideal) .f32 eps)))) (g j)

/-- The quantiser's scale of a row. -/
noncomputable def rowScale (v : Fin N → EReal) : EReal :=
  scale (Finset.fold max (Ideal.ofBits .f32 0xFF800000#32) (fun q : Fin N => max (v q) (-(v q))) Finset.univ)

/-- The int8 code of a value with a scale. -/
noncomputable def code (v s : EReal) : BitVec 8 :=
  FloatOps.fptosi 8 (FloatOps.minimumf (F := Ideal) (Scalar.sitofp .f32 127#32) (FloatOps.maximumf (Scalar.sitofp .f32 4294967169#32) (FloatOps.roundeven (FloatOps.divf (φ := .f32) v s))))

variable (H : RowOps M N)

theorem norm_apply (d eps : BitVec 32) (x : FVec Ideal ⟨2, ![M, N]⟩ .f32) (g : FVec Ideal ⟨2, ![1, N]⟩ .f32) (r : Fin M) (j : Fin N) :
    norm H d eps x g (ix2 r j) = nrm d eps (fun q => x (ix2 r q)) (fun q => g (ix2 0 q)) j := by
  show FloatOps.mulf (FloatOps.divf (x (ix2 r j)) (broadcastTo ⟨2, ![M, N]⟩ _ H.col (ix2 r j))) (broadcastTo ⟨2, ![M, N]⟩ g H.row (ix2 r j)) = _
  rw [bcol_apply, brow_apply]
  exact congrArg (fun e : EReal => FloatOps.mulf (F := Ideal) (φ := .f32) (FloatOps.divf (x (ix2 r j)) (FloatOps.sqrt (FloatOps.addf (FloatOps.divf (φ := .f32) e
    (Scalar.ofBits (F := Ideal) .f32 d)) (Scalar.ofBits (F := Ideal) .f32 eps)))) (g (ix2 0 j))) (rowsum_apply (mulf x x) H.red (.inl rfl) rfl H.cast r 0)

theorem scales_apply (v : FVec Ideal ⟨2, ![M, N]⟩ .f32) (r : Fin M) (j : Fin 1) : scales H v (ix2 r j) = rowScale (fun q => v (ix2 r q)) :=
  (scaleOf_apply _ _).trans (congrArg scale (rowmax_apply _ _ _ _ _ _ r j))

theorem scales1_apply (v : FVec Ideal ⟨2, ![M, N]⟩ .f32) (r : Fin M) : scales1 H v (ix1 r) = rowScale (fun q => v (ix2 r q)) :=
  (scaleOf_apply _ _).trans (congrArg scale (rowmax1_apply _ _ _ _ _ r))

theorem codesOf_apply (v : FVec Ideal ⟨2, ![M, N]⟩ .f32) (s : FVec Ideal ⟨2, ![M, 1]⟩ .f32) (r : Fin M) (j : Fin N) :
    codesOf H v s (ix2 r j) = code (v (ix2 r j)) (s (ix2 r 0)) := by
  show FloatOps.fptosi 8 (FloatOps.minimumf _ (FloatOps.maximumf _ (FloatOps.roundeven (FloatOps.divf _ (broadcastTo ⟨2, ![M, N]⟩ s H.col (ix2 r j)))))) = _
  rw [bcol_apply]
  rfl

end Cert.Norm
-- ==== Proof.Oproj.lean ====
module

public import proofs.«01_k».proof.Proof.Gen.OprojKernelIdeal.Value
public import proofs.«01_k».proof.Proof.Norm

/-! What one grid point of the output projection's kernel stores, element by element. -/

@[expose] public section

open Idealize Idealize.ShloMosaic Cert.Dequant Cert.Dot Cert.Norm

namespace Cert.OprojKernelIdeal
open Gen

set_option maxRecDepth 100000

theorem casts : Casts 512 := ⟨by decide, by decide, by decide, by decide, by decide⟩

/-- The stores of a column block's unpacked fields over `tail`: columns from `o` of the weights, scales from column `so`. -/
noncomputable abbrev tiles (f : Vec Ideal ⟨2, ![32, 512]⟩ .i8 → FVec Ideal ⟨2, ![1, 512]⟩ .f32 → FVec Ideal ⟨2, ![32, 512]⟩ .bf16)
    (tail : List (View.Piece (Elt Ideal) S3072x512 .bf16)) (w : Vec Ideal S3072x1536 .i8) (s : Vec Ideal S96x3072 .f32) (o so : Nat)
    (ho : o + 512 ≤ 1536) (hso : so + 512 ≤ 3072) : List (View.Piece (Elt Ideal) S3072x512 .bf16) :=
  piecesOn (D := 3072) (C := 1536) (T := 512) (G := 96) (SC := 3072) tail f o so w s rfl ho hso 96 (le_refl _)

theorem tiles_lo (tail w s) (o so : Nat) (ho : o + 512 ≤ 1536) (hso : so + 512 ≤ 3072) (k : Fin 3072) (l : Fin 512) :
    View.canon (tiles (loTile casts) tail w s o so ho hso) (ix2 k l)
      = (((loF (w (ix2 k (⟨o + l.val, by omega⟩ : Fin 1536)))).toInt : ℝ) : EReal) * s (ix2 (⟨k.val / 32, by omega⟩ : Fin 96) (⟨so + l.val, by omega⟩ : Fin 3072)) :=
  piecesOn_apply _ o so w s rfl ho hso tail (fun b => (((loF b).toInt : ℝ) : EReal)) (loTile_apply casts) 96 (le_refl _) k l k.isLt

theorem tiles_hi (tail w s) (o so : Nat) (ho : o + 512 ≤ 1536) (hso : so + 512 ≤ 3072) (k : Fin 3072) (l : Fin 512) :
    View.canon (tiles (hiTile casts) tail w s o so ho hso) (ix2 k l)
      = (((hiF (w (ix2 k (⟨o + l.val, by omega⟩ : Fin 1536)))).toInt : ℝ) : EReal) * s (ix2 (⟨k.val / 32, by omega⟩ : Fin 96) (⟨so + l.val, by omega⟩ : Fin 3072)) :=
  piecesOn_apply _ o so w s rfl ho hso tail (fun b => (((hiF b).toInt : ℝ) : EReal)) (hiTile_apply casts) 96 (le_refl _) k l k.isLt

/-- The unpacked low fields of the columns from `o`, with their scales. -/
noncomputable def wlo (w : Vec Ideal S3072x1536 .i8) (s : Vec Ideal S96x3072 .f32) (o so : Nat) (ho : o + 512 ≤ 1536) (hso : so + 512 ≤ 3072) : Vec Ideal S3072x512 .bf16 :=
  View.canon (tiles (loTile casts) [] w s o so ho hso)

/-- The unpacked high fields of the columns from `o`, with their scales. -/
noncomputable def whi (w : Vec Ideal S3072x1536 .i8) (s : Vec Ideal S96x3072 .f32) (o so : Nat) (ho : o + 512 ≤ 1536) (hso : so + 512 ≤ 3072) : Vec Ideal S3072x512 .bf16 :=
  View.canon (tiles (hiTile casts) [] w s o so ho hso)

/-- Columns `b … b + 511` of a block of rows. -/
abbrev cols (b : Nat) (hb : b + 512 ≤ 3072) : Rect S384x3072 :=
  Rect.unit (s := S384x3072) ![0, b] ![384, 512] (fun a => by
    match a with | ⟨0, _⟩ => show 0 + 384 ≤ 384; omega | ⟨1, _⟩ => exact hb)

/-- The store of a column block of the residual stream, with unpacked weights `w`. -/
noncomputable def colStore (xb : Vec Ideal S384x3072 .bf16) (xs : Vec Ideal S384x1 .f32) (x : Vec Ideal S384x3072 .bf16) (w : Vec Ideal S3072x512 .bf16) (b : Nat) (hb : b + 512 ≤ 3072) :
    View.Piece (Elt Ideal) S384x3072 .f32 :=
  ⟨cols b hb, k0_pay441 (F := Ideal) xb xs (View.ld x (cols b hb)) w⟩

/-- All six, the last first. -/
noncomputable def colStores (xb : Vec Ideal S384x3072 .bf16) (xs : Vec Ideal S384x1 .f32) (x : Vec Ideal S384x3072 .bf16) (l0 l1 l2 h0 h1 h2 : Vec Ideal S3072x512 .bf16) :
    List (View.Piece (Elt Ideal) S384x3072 .f32) :=
  [colStore xb xs x h2 2560 (by decide), colStore xb xs x l2 1024 (by decide), colStore xb xs x h1 2048 (by decide), colStore xb xs x l1 512 (by decide),
    colStore xb xs x h0 1536 (by decide), colStore xb xs x l0 0 (by decide)]

section Words
variable (c : Dev nD) (arg5 : Memref sig .tc .vmem S3072x1536 .i8) (harg5 : arg5.IsWhole) (arg6 : Memref sig .tc .vmem S96x3072 .f32) (harg6 : arg6.IsWhole)
  (a : Memref sig .tc .vmem S3072x512 .bf16) (x4 : Vec Ideal S3072x1536 .i8) (x5 : Vec Ideal S96x3072 .f32)

theorem word (L : List (View.Piece (Elt Ideal) S3072x512 .bf16)) :
    View.readCov a.view L (Rect.unit (s := S3072x512) ![0, 0] S3072x512.size inb_S3072x512_S3072x512_0_0).toLoadRect = View.canon L := by
  rw [View.readCov_eq_canon']
  exact View.ld_unit_zero (S := S3072x512) (by decide) _ _

/-- What the low fields' buffer reads, whatever was stored before the block's tiles. -/
theorem word_lo (tail w s) (o so : Nat) (ho : o + 512 ≤ 1536) (hso : so + 512 ≤ 3072) :
    View.readCov a.view (tiles (loTile casts) tail w s o so ho hso) (Rect.unit (s := S3072x512) ![0, 0] S3072x512.size inb_S3072x512_S3072x512_0_0).toLoadRect = wlo w s o so ho hso := by
  rw [word]
  refine funext fun (i : S3072x512.Idx) => ?_
  obtain ⟨k, l, rfl⟩ : ∃ k l, i = ix2 k l := ⟨i 0, i 1, eq_ix2 i⟩
  exact (tiles_lo ..).trans (tiles_lo ..).symm

/-- What the high fields' buffer reads, whatever was stored before the block's tiles. -/
theorem word_hi (tail w s) (o so : Nat) (ho : o + 512 ≤ 1536) (hso : so + 512 ≤ 3072) :
    View.readCov a.view (tiles (hiTile casts) tail w s o so ho hso) (Rect.unit (s := S3072x512) ![0, 0] S3072x512.size inb_S3072x512_S3072x512_0_0).toLoadRect = whi w s o so ho hso := by
  rw [word]
  refine funext fun (i : S3072x512.Idx) => ?_
  obtain ⟨k, l, rfl⟩ : ∃ k l, i = ix2 k l := ⟨i 0, i 1, eq_ix2 i⟩
  exact (tiles_hi ..).trans (tiles_hi ..).symm

theorem lo0 : kernelRun0_A.sl.v3077 (F := Ideal) c arg5 harg5 arg6 harg6 a x4 x5 = wlo x4 x5 0 0 (by decide) (by decide) := by
  have e : kernelRun0_A.sl.HS0_96 (F := Ideal) c arg5 harg5 arg6 harg6 x4 x5 = tiles (loTile casts) []
      (arg5.view.read (Elt Ideal) (harg5.unread x4)) (arg6.view.read (Elt Ideal) (harg6.unread x5)) 0 0 (by decide) (by decide) := rfl
  unfold kernelRun0_A.sl.v3077
  rw [e, harg5.read_unread, harg6.read_unread, word_lo]

theorem lo1 : kernelRun0_A.sl.v6165 (F := Ideal) c arg5 harg5 arg6 harg6 a x4 x5 = wlo x4 x5 512 512 (by decide) (by decide) := by
  have e : kernelRun0_A.sl.HS0_192 (F := Ideal) c arg5 harg5 arg6 harg6 x4 x5 = tiles (loTile casts) (kernelRun0_A.sl.HS0_96 (F := Ideal) c arg5 harg5 arg6 harg6 x4 x5)
      (arg5.view.read (Elt Ideal) (harg5.unread x4)) (arg6.view.read (Elt Ideal) (harg6.unread x5)) 512 512 (by decide) (by decide) := rfl
  unfold kernelRun0_A.sl.v6165
  rw [e, harg5.read_unread, harg6.read_unread, word_lo]

theorem lo2 : kernelRun0_A.sl.v9253 (F := Ideal) c arg5 harg5 arg6 harg6 a x4 x5 = wlo x4 x5 1024 1024 (by decide) (by decide) := by
  have e : kernelRun0_A.sl.HS0_288 (F := Ideal) c arg5 harg5 arg6 harg6 x4 x5 = tiles (loTile casts) (kernelRun0_A.sl.HS0_192 (F := Ideal) c arg5 harg5 arg6 harg6 x4 x5)
      (arg5.view.read (Elt Ideal) (harg5.unread x4)) (arg6.view.read (Elt Ideal) (harg6.unread x5)) 1024 1024 (by decide) (by decide) := rfl
  unfold kernelRun0_A.sl.v9253
  rw [e, harg5.read_unread, harg6.read_unread, word_lo]

theorem hi0 : kernelRun0_A.sl.v3085 (F := Ideal) c arg5 harg5 arg6 harg6 a x4 x5 = whi x4 x5 0 1536 (by decide) (by decide) := by
  have e : kernelRun0_A.sl.HS1_96 (F := Ideal) c arg5 harg5 arg6 harg6 x4 x5 = tiles (hiTile casts) []
      (arg5.view.read (Elt Ideal) (harg5.unread x4)) (arg6.view.read (Elt Ideal) (harg6.unread x5)) 0 1536 (by decide) (by decide) := rfl
  unfold kernelRun0_A.sl.v3085
  rw [e, harg5.read_unread, harg6.read_unread, word_hi]

theorem hi1 : kernelRun0_A.sl.v6173 (F := Ideal) c arg5 harg5 arg6 harg6 a x4 x5 = whi x4 x5 512 2048 (by decide) (by decide) := by
  have e : kernelRun0_A.sl.HS1_192 (F := Ideal) c arg5 harg5 arg6 harg6 x4 x5 = tiles (hiTile casts) (kernelRun0_A.sl.HS1_96 (F := Ideal) c arg5 harg5 arg6 harg6 x4 x5)
      (arg5.view.read (Elt Ideal) (harg5.unread x4)) (arg6.view.read (Elt Ideal) (harg6.unread x5)) 512 2048 (by decide) (by decide) := rfl
  unfold kernelRun0_A.sl.v6173
  rw [e, harg5.read_unread, harg6.read_unread, word_hi]

theorem hi2 : kernelRun0_A.sl.v9261 (F := Ideal) c arg5 harg5 arg6 harg6 a x4 x5 = whi x4 x5 1024 2560 (by decide) (by decide) := by
  have e : kernelRun0_A.sl.HS1_288 (F := Ideal) c arg5 harg5 arg6 harg6 x4 x5 = tiles (hiTile casts) (kernelRun0_A.sl.HS1_192 (F := Ideal) c arg5 harg5 arg6 harg6 x4 x5)
      (arg5.view.read (Elt Ideal) (harg5.unread x4)) (arg6.view.read (Elt Ideal) (harg6.unread x5)) 1024 2560 (by decide) (by decide) := rfl
  unfold kernelRun0_A.sl.v9261
  rw [e, harg5.read_unread, harg6.read_unread, word_hi]

end Words

/-- What a point stores for the residual stream. -/
theorem H6_eq (c : Dev nD) arg1 (harg1 : arg1.IsWhole) arg2 (harg2 : arg2.IsWhole) arg3 (harg3 : arg3.IsWhole) arg5 harg5 arg6 harg6 arg11 arg12 x0 x1 x2 x4 x5 :
    kernelRun0_A.sl.H6_6 (F := Ideal) c arg1 harg1 arg2 harg2 arg3 harg3 arg5 harg5 arg6 harg6 arg11 arg12 x0 x1 x2 x4 x5
      = colStores (k0_pay1 x0) x1 x2 (wlo x4 x5 0 0 (by decide) (by decide)) (wlo x4 x5 512 512 (by decide) (by decide)) (wlo x4 x5 1024 1024 (by decide) (by decide))
          (whi x4 x5 0 1536 (by decide) (by decide)) (whi x4 x5 512 2048 (by decide) (by decide)) (whi x4 x5 1024 2560 (by decide) (by decide)) := by
  rw [← lo0 c arg5 harg5 arg6 harg6 arg11, ← lo1 c arg5 harg5 arg6 harg6 arg11, ← lo2 c arg5 harg5 arg6 harg6 arg11,
    ← hi0 c arg5 harg5 arg6 harg6 arg12, ← hi1 c arg5 harg5 arg6 harg6 arg12, ← hi2 c arg5 harg5 arg6 harg6 arg12]
  refine (show _ = colStores (k0_pay1 (View.ld (arg1.view.read (Elt Ideal) (harg1.unread x0)) (Rect.unit (s := S384x3072) ![0, 0] S384x3072.size inb_S384x3072_S384x3072_0_0)))
    (View.ld (arg2.view.read (Elt Ideal) (harg2.unread x1)) (Rect.unit (s := S384x1) ![0, 0] S384x1.size inb_S384x1_S384x1_0_0)) (arg3.view.read (Elt Ideal) (harg3.unread x2))
    (kernelRun0_A.sl.v3077 (F := Ideal) c arg5 harg5 arg6 harg6 arg11 x4 x5) (kernelRun0_A.sl.v6165 c arg5 harg5 arg6 harg6 arg11 x4 x5) (kernelRun0_A.sl.v9253 c arg5 harg5 arg6 harg6 arg11 x4 x5)
    (kernelRun0_A.sl.v3085 c arg5 harg5 arg6 harg6 arg12 x4 x5) (kernelRun0_A.sl.v6173 c arg5 harg5 arg6 harg6 arg12 x4 x5) (kernelRun0_A.sl.v9261 c arg5 harg5 arg6 harg6 arg12 x4 x5) from rfl).trans ?_
  rw [harg1.read_unread, harg2.read_unread, harg3.read_unread, View.ld_unit_zero (S := S384x3072) (by decide), View.ld_unit_zero (S := S384x1) (by decide)]

end Cert.OprojKernelIdeal
-- ==== Proof.OprojRef.lean ====
module

public import proofs.«01_k».proof.Proof.Norm
public import proofs.«01_k».proof.Proof.Gen.OprojReferenceIdeal.Value

/-! The output projection's reference: its four results, element by element. -/

@[expose] public section

open Idealize Idealize.ShloMosaic Cert.Dequant Cert.Dot Cert.Norm

namespace Cert.Oproj

/-- The residual stream after the projection, at row `r` and column `j`. -/
noncomputable def h1val (a0 : Vec Ideal ⟨2, ![1920, 3072]⟩ .i8) (a1 : Vec Ideal ⟨2, ![1920, 1]⟩ .f32) (a2 : Vec Ideal ⟨2, ![1920, 3072]⟩ .bf16)
    (a4 : Vec Ideal ⟨2, ![3072, 1536]⟩ .i8) (a5 : Vec Ideal ⟨2, ![96, 3072]⟩ .f32) (r : Fin 1920) (j : Fin 3072) : EReal :=
  a2 (ix2 r j) + both a0 a1 a4 a5 rfl rfl r j

/-- The normed row `r` of it, at column `j`. -/
noncomputable def hnval (a0 : Vec Ideal ⟨2, ![1920, 3072]⟩ .i8) (a1 : Vec Ideal ⟨2, ![1920, 1]⟩ .f32) (a2 : Vec Ideal ⟨2, ![1920, 3072]⟩ .bf16)
    (a3 : Vec Ideal ⟨2, ![1, 3072]⟩ .f32) (a4 : Vec Ideal ⟨2, ![3072, 1536]⟩ .i8) (a5 : Vec Ideal ⟨2, ![96, 3072]⟩ .f32) (r : Fin 1920) (j : Fin 3072) : EReal :=
  nrm 0x45400000#32 0x3727C5AC#32 (h1val a0 a1 a2 a4 a5 r) (fun q => a3 (ix2 0 q)) j

end Cert.Oproj

namespace Cert.OprojReferenceIdeal
open Gen Cert.Oproj Value

theorem R : RowOps 1920 3072 := ⟨reduces_S1920x3072_S1920, shapeCasts_S1920_S1920x1, broadcasts_S1920x1_S1920x3072, broadcasts_S1x3072_S1920x3072⟩

variable (a0 : Vec Ideal S1920x3072 .i8) (a1 : Vec Ideal S1920x1 .f32) (a2 : Vec Ideal S1920x3072 .bf16) (a3 : Vec Ideal S1x3072 .f32)
  (a4 : Vec Ideal S3072x1536 .i8) (a5 : Vec Ideal S96x3072 .f32)

theorem lo_apply (r : Fin 1920) (j : Fin 1536) : k0_pay3 a0 a1 a4 a5 (ix2 r j) = dot loF a0 a1 a4 a5 rfl r j ⟨j.val, by omega⟩ := by
  pointwise [k0_pay3, k0_pay2]
  unfold dot
  simp only [sitofp_def, lo_field]

theorem hi_apply (r : Fin 1920) (j : Fin 1536) : k0_pay4 a0 a1 a4 a5 (ix2 r j) = dot hiF a0 a1 a4 a5 rfl r j ⟨1536 + j.val, by omega⟩ := by
  pointwise [k0_pay4, k0_pay2]
  unfold dot
  simp only [sitofp_def, hi_field]

theorem pay5_apply (u v : Vec Ideal S1920x1536 .f32) (r : Fin 1920) (j : Fin 3072) :
    k0_pay5 u v a2 (ix2 r j) = a2 (ix2 r j) + (if h : j.val < 1536 then u (ix2 r ⟨j.val, h⟩) else v (ix2 r ⟨j.val - 1536, by omega⟩)) := by
  pointwise [k0_pay5]

theorem h1_apply (r : Fin 1920) (j : Fin 3072) : k0_pay5 (k0_pay3 a0 a1 a4 a5) (k0_pay4 a0 a1 a4 a5) a2 (ix2 r j) = h1val a0 a1 a2 a4 a5 r j := by
  rw [pay5_apply]
  unfold h1val both
  refine congrArg (fun q => a2 (ix2 r j) + q) ?_
  by_cases h : j.val < 1536
  · rw [dif_pos h, dif_pos h, lo_apply]
  · rw [dif_neg h, dif_neg h, hi_apply]
    exact congrArg _ (Fin.ext (by show 1536 + (j.val - 1536) = j.val; omega))

theorem open10 : k0_pay10 a0 a1 a2 a3 a4 a5 = k0_pay3 a0 a1 a4 a5 := by
  unfold k0_pay10
  rw [View.ld_unit_zero (S := S1920x3072) (by decide), View.ld_unit_zero (S := S1920x1) (by decide), View.ld_unit_zero (S := S3072x1536) (by decide),
    View.ld_unit_zero (S := S96x3072) (by decide)]

theorem open11 : k0_pay11 a0 a1 a2 a3 a4 a5 = k0_pay4 a0 a1 a4 a5 := by
  unfold k0_pay11
  rw [View.ld_unit_zero (S := S1920x3072) (by decide), View.ld_unit_zero (S := S1920x1) (by decide), View.ld_unit_zero (S := S3072x1536) (by decide),
    View.ld_unit_zero (S := S96x3072) (by decide)]

theorem pay6_eq (u v : Vec Ideal S1920x1536 .f32) : k0_pay6 u v a2 a3 = norm R 0x45400000#32 0x3727C5AC#32 (k0_pay5 u v a2) a3 := rfl
theorem pay7_eq (u v : Vec Ideal S1920x1536 .f32) : k0_pay7 u v a2 a3 = scales1 R (k0_pay6 u v a2 a3) := rfl
theorem pay8_eq (u v : Vec Ideal S1920x1536 .f32) : k0_pay8 u v a2 a3 = codesOf R (k0_pay6 u v a2 a3) (k0_pay1 (k0_pay7 u v a2 a3)) := rfl

theorem pay1_apply (v : Vec Ideal S1920 .f32) (r : Fin 1920) (j : Fin 1) : k0_pay1 (F := Ideal) v (ix2 r j) = v (ix1 r) := ascol_apply v _ r j

theorem hn_apply (r : Fin 1920) (j : Fin 3072) : k0_pay6 (k0_pay3 a0 a1 a4 a5) (k0_pay4 a0 a1 a4 a5) a2 a3 (ix2 r j) = hnval a0 a1 a2 a3 a4 a5 r j := by
  rw [pay6_eq, norm_apply]
  simp only [h1_apply]
  rfl

theorem scale_apply (r : Fin 1920) : k0_pay7 (k0_pay3 a0 a1 a4 a5) (k0_pay4 a0 a1 a4 a5) a2 a3 (ix1 r) = rowScale (hnval a0 a1 a2 a3 a4 a5 r) := by
  rw [pay7_eq, scales1_apply]
  simp only [hn_apply]

theorem G6_apply (r : Fin 1920) (j : Fin 3072) : G6 a0 a1 a2 a3 a4 a5 (ix2 r j) = h1val a0 a1 a2 a4 a5 r j := by
  unfold G6
  rw [open10, open11, h1_apply]

theorem G7_apply (r : Fin 1920) (j : Fin 3072) : G7 a0 a1 a2 a3 a4 a5 (ix2 r j)
    = code (hnval a0 a1 a2 a3 a4 a5 r j) (rowScale (hnval a0 a1 a2 a3 a4 a5 r)) := by
  unfold G7
  rw [open10, open11, pay8_eq, codesOf_apply, hn_apply, pay1_apply, scale_apply]

theorem G9_apply (r : Fin 1920) (j : Fin 1) : G9 a0 a1 a2 a3 a4 a5 (ix2 r j) = rowScale (hnval a0 a1 a2 a3 a4 a5 r) := by
  unfold G9
  rw [open10, open11, pay1_apply, scale_apply]

theorem G8_apply (b : Fin 5) (z : Fin 1) (l : Fin 384) : G8 a0 a1 a2 a3 a4 a5 (ix3 b z l) = rowScale (hnval a0 a1 a2 a3 a4 a5 ⟨384 * b.val + l.val, by omega⟩) := by
  unfold G8
  rw [open10, open11]
  unfold k0_pay9
  refine (shapeCast_apply _ _ (ix3 b z l) (ix1 (⟨384 * b.val + l.val, by omega⟩ : Fin 1920)) ?_).trans (scale_apply _ _ _ _ _ _ _)
  rw [Shape.rowMajor_val_one, Shape.rowMajor_val_three]
  show 384 * b.val + l.val = (b.val * 1 + z.val) * 384 + l.val
  omega

end Cert.OprojReferenceIdeal
-- ==== Proof.OprojPoint.lean ====
module

public import proofs.«01_k».proof.Proof.Oproj
public import proofs.«01_k».proof.Proof.OprojRef

/-! The output projection's kernel: its four results are the reference's. -/

@[expose] public section

open Idealize Idealize.ShloMosaic Cert.Dequant Cert.Dot Cert.Norm

namespace Cert.OprojKernelIdeal
open Gen Cert.Oproj

theorem R : RowOps 384 3072 := ⟨reduces_S384x3072_S384, shapeCasts_S384_S384x1, broadcasts_S384x1_S384x3072, broadcasts_S1x3072_S384x3072⟩

theorem pay441_apply (xb : Vec Ideal S384x3072 .bf16) (xs : Vec Ideal S384x1 .f32) (x : Vec Ideal S384x512 .bf16) (w : Vec Ideal S3072x512 .bf16) (p : Fin 384) (l : Fin 512) :
    k0_pay441 (F := Ideal) xb xs x w (ix2 p l) = x (ix2 p l) + (∑ k : Fin 3072, xb (ix2 p k) * w (ix2 k l)) * xs (ix2 p 0) := by
  pointwise [k0_pay441]

theorem codes_apply (x : Vec Ideal S384x3072 .i8) (r : Fin 384) (k : Fin 3072) : k0_pay1 (F := Ideal) x (ix2 r k) = (((x (ix2 r k)).toInt : ℝ) : EReal) := rfl

section Block
variable (x0 : Vec Ideal S384x3072 .i8) (x1 : Vec Ideal S384x1 .f32) (x2 : Vec Ideal S384x3072 .bf16) (x3 : Vec Ideal S1x3072 .f32)
  (x4 : Vec Ideal S3072x1536 .i8) (x5 : Vec Ideal S96x3072 .f32)

/-- A block of the residual stream. -/
noncomputable def blk : Vec Ideal S384x3072 .f32 := fun i => x2 i + both x0 x1 x4 x5 rfl rfl (i 0) (i 1)

theorem cols_emb (b : Nat) (hb : b + 512 ≤ 3072) (p : Fin 384) (l : Fin 512) : (cols b hb).emb (ix2 p l) = (ix2 p (⟨b + l.val, by omega⟩ : Fin 3072) : S384x3072.Idx) := by
  funext a
  match a with
  | ⟨0, _⟩ => exact Fin.ext (by show 0 + 1 * p.val = p.val; omega)
  | ⟨1, _⟩ => exact Fin.ext (by show b + 1 * l.val = b + l.val; omega)

theorem lo_store (o : Nat) (ho : o + 512 ≤ 1536) (hb : o + 512 ≤ 3072) (i : (cols o hb).shape.Idx) :
    (colStore (k0_pay1 x0) x1 x2 (wlo x4 x5 o o ho hb) o hb).2 i = blk x0 x1 x2 x4 x5 ((cols o hb).emb i) := by
  obtain ⟨p, l, rfl⟩ : ∃ (p : Fin 384) (l : Fin 512), i = ix2 p l := ⟨i 0, i 1, eq_ix2 (n0 := 384) (n1 := 512) i⟩
  rw [cols_emb]
  refine (pay441_apply _ _ _ _ p l).trans ?_
  show x2 ((cols o hb).emb (ix2 p l)) + _ = x2 _ + both x0 x1 x4 x5 rfl rfl p (⟨o + l.val, by omega⟩ : Fin 3072)
  rw [cols_emb]
  refine congrArg (fun q => x2 _ + q) ?_
  unfold both dot
  rw [dif_pos (by show o + l.val < 1536; omega)]
  simp only [codes_apply, wlo, tiles_lo]

theorem hi_store (o so : Nat) (ho : o + 512 ≤ 1536) (hb : so + 512 ≤ 3072) (e : so = 1536 + o) (i : (cols so hb).shape.Idx) :
    (colStore (k0_pay1 x0) x1 x2 (whi x4 x5 o so ho hb) so hb).2 i = blk x0 x1 x2 x4 x5 ((cols so hb).emb i) := by
  obtain ⟨p, l, rfl⟩ : ∃ (p : Fin 384) (l : Fin 512), i = ix2 p l := ⟨i 0, i 1, eq_ix2 (n0 := 384) (n1 := 512) i⟩
  rw [cols_emb]
  refine (pay441_apply _ _ _ _ p l).trans ?_
  show x2 ((cols so hb).emb (ix2 p l)) + _ = x2 _ + both x0 x1 x4 x5 rfl rfl p (⟨so + l.val, by omega⟩ : Fin 3072)
  rw [cols_emb]
  refine congrArg (fun q => x2 _ + q) ?_
  unfold both dot
  rw [dif_neg (by show ¬ so + l.val < 1536; omega)]
  simp only [codes_apply, whi, tiles_hi]
  have e2 : (⟨so + l.val - 1536, by omega⟩ : Fin 1536) = ⟨o + l.val, by omega⟩ := Fin.ext (by show so + l.val - 1536 = o + l.val; omega)
  simp only [e2]

/-- The six stores agree with the block, each on its columns. -/
theorem agree : ∀ p ∈ colStores (k0_pay1 x0) x1 x2 (wlo x4 x5 0 0 (by decide) (by decide)) (wlo x4 x5 512 512 (by decide) (by decide)) (wlo x4 x5 1024 1024 (by decide) (by decide))
      (whi x4 x5 0 1536 (by decide) (by decide)) (whi x4 x5 512 2048 (by decide) (by decide)) (whi x4 x5 1024 2560 (by decide) (by decide)),
    ∀ i : p.1.shape.Idx, p.2 i = blk x0 x1 x2 x4 x5 (p.1.emb i) := by
  intro p hp
  unfold colStores at hp
  rcases List.mem_cons.mp hp with rfl | hp
  · exact hi_store x0 x1 x2 x4 x5 _ _ _ _ rfl
  rcases List.mem_cons.mp hp with rfl | hp
  · exact lo_store x0 x1 x2 x4 x5 _ _ _
  rcases List.mem_cons.mp hp with rfl | hp
  · exact hi_store x0 x1 x2 x4 x5 _ _ _ _ rfl
  rcases List.mem_cons.mp hp with rfl | hp
  · exact lo_store x0 x1 x2 x4 x5 _ _ _
  rcases List.mem_cons.mp hp with rfl | hp
  · exact hi_store x0 x1 x2 x4 x5 _ _ _ _ rfl
  rcases List.mem_cons.mp hp with rfl | hp
  · exact lo_store x0 x1 x2 x4 x5 _ _ _
  nomatch hp

end Block

section Out
variable (c : Dev nD) (i : grid0.Coords) (arg1 : Memref sig .tc .vmem S384x3072 .i8) (harg1 : arg1.IsWhole) (arg2 : Memref sig .tc .vmem S384x1 .f32) (harg2 : arg2.IsWhole)
  (arg3 : Memref sig .tc .vmem S384x3072 .bf16) (harg3 : arg3.IsWhole) (arg4 : Memref sig .tc .vmem S1x3072 .f32) (harg4 : arg4.IsWhole)
  (arg5 : Memref sig .tc .vmem S3072x1536 .i8) (harg5 : arg5.IsWhole) (arg6 : Memref sig .tc .vmem S96x3072 .f32) (harg6 : arg6.IsWhole)
  (arg7 : Memref sig .tc .vmem S384x3072 .f32) (harg7 : arg7.IsWhole) (arg8 : Memref sig .tc .vmem S384x3072 .i8) (harg8 : arg8.IsWhole)
  (arg9 : Memref sig .tc .vmem S1x1x384 .f32) (harg9 : arg9.IsWhole) (arg10 : Memref sig .tc .vmem S384x1 .f32) (harg10 : arg10.IsWhole)
  (arg11 : Memref sig .tc .vmem S3072x512 .bf16) (harg11 : arg11.IsWhole) (arg12 : Memref sig .tc .vmem S3072x512 .bf16) (harg12 : arg12.IsWhole)
  (x0 : Vec Ideal S384x3072 .i8) (x1 : Vec Ideal S384x1 .f32) (x2 : Vec Ideal S384x3072 .bf16) (x3 : Vec Ideal S1x3072 .f32)
  (x4 : Vec Ideal S3072x1536 .i8) (x5 : Vec Ideal S96x3072 .f32)

include i harg4 harg7 harg8 harg9 harg10 harg11 harg12 x3 in
theorem canon_H6 : View.canon (kernelRun0_A.sl.H6_6 (F := Ideal) c arg1 harg1 arg2 harg2 arg3 harg3 arg5 harg5 arg6 harg6 arg11 arg12 x0 x1 x2 x4 x5) = blk x0 x1 x2 x4 x5 := by
  funext y
  have hc := cover0_A_6 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 y
  unfold kernelRun0_A at hc
  dsimp only at hc
  rw [H6_eq] at hc ⊢
  exact View.canon_apply_of_pieces _ _ (agree x0 x1 x2 x4 x5) y hc

theorem out0_A_6_eq : out0_A_6 (F := Ideal) c i arg1 harg1 arg2 harg2 arg3 harg3 arg4 harg4 arg5 harg5 arg6 harg6 arg7 harg7 arg8 harg8 arg9 harg9 arg10 harg10 arg11 harg11 arg12 harg12 x0 x1 x2 x3 x4 x5
    = blk x0 x1 x2 x4 x5 := by
  unfold out0_A_6
  rw [View.read_writes_eq_canon _ _ _ (fun y => cover0_A_6 _ _ _ _ _ _ _ _ _ _ _ _ _ _ _ _ _ _ _ _ _ _ _ _ _ _ _ _ _ _ _ _ y)]
  unfold kernelRun0_A
  dsimp only
  exact canon_H6 c i arg1 harg1 arg2 harg2 arg3 harg3 arg4 harg4 arg5 harg5 arg6 harg6 arg7 harg7 arg8 harg8 arg9 harg9 arg10 harg10 arg11 harg11 arg12 harg12 x0 x1 x2 x3 x4 x5

include i harg4 harg7 harg8 harg9 harg10 harg11 harg12 x3 in
theorem h1_word : kernelRun0_A.sl.r_534 (F := Ideal) c arg1 harg1 arg2 harg2 arg3 harg3 arg5 harg5 arg6 harg6 arg7 arg11 arg12 x0 x1 x2 x4 x5 = blk x0 x1 x2 x4 x5 := by
  have e : kernelRun0_A.sl.r_534 (F := Ideal) c arg1 harg1 arg2 harg2 arg3 harg3 arg5 harg5 arg6 harg6 arg7 arg11 arg12 x0 x1 x2 x4 x5
      = k0_pay1329 (View.readCov arg7.view (kernelRun0_A.sl.H6_6 (F := Ideal) c arg1 harg1 arg2 harg2 arg3 harg3 arg5 harg5 arg6 harg6 arg11 arg12 x0 x1 x2 x4 x5)
        (Rect.unit (s := S384x3072) ![0, 0] S384x3072.size inb_S384x3072_S384x3072_0_0).toLoadRect) := rfl
  rw [e, View.readCov_eq_canon', canon_H6 c i arg1 harg1 arg2 harg2 arg3 harg3 arg4 harg4 arg5 harg5 arg6 harg6 arg7 harg7 arg8 harg8 arg9 harg9 arg10 harg10 arg11 harg11 arg12 harg12 x0 x1 x2 x3 x4 x5]
  unfold k0_pay1329
  refine (shapeCast_self _ _).trans ?_
  exact View.ld_unit_zero (S := S384x3072) (by decide) _ _

theorem gains : View.readAt (Elt Ideal) arg4.view (Rect.unit (s := S1x3072) ![0, 0] S1x3072.size inb_S1x3072_S1x3072_0_0).toLoadRect (harg4.unread x3) = x3 := by
  rw [View.readAt_eq_ld, harg4.read_unread]
  exact View.ld_unit_zero (S := S1x3072) (by decide) _ _

theorem out0_A_7_eq : out0_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 x5
    = k0_pay1332 (blk x0 x1 x2 x4 x5) x3 := by
  unfold out0_A_7
  rw [View.read_writes_eq_canon _ _ _ (fun y => cover0_A_7 _ _ _ _ _ _ _ _ _ _ _ _ _ _ _ _ _ _ _ _ _ _ _ _ _ _ _ _ _ _ _ _ y)]
  unfold kernelRun0_A
  dsimp only
  refine (View.canon_unit_zero (S := S384x3072) (by decide) _ _).trans ?_
  exact congrArg₂ k0_pay1332 (h1_word c i arg1 harg1 arg2 harg2 arg3 harg3 arg4 harg4 arg5 harg5 arg6 harg6 arg7 harg7 arg8 harg8 arg9 harg9 arg10 harg10 arg11 harg11 arg12 harg12 x0 x1 x2 x3 x4 x5) (gains arg4 harg4 x3)

theorem out0_A_8_eq : out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5
    = k0_pay1333 (blk x0 x1 x2 x4 x5) x3 := by
  unfold out0_A_8
  rw [View.read_writes_eq_canon _ _ _ (fun y => cover0_A_8 _ _ _ _ _ _ _ _ _ _ _ _ _ _ _ _ _ _ _ _ _ _ _ _ _ _ _ _ _ _ _ _ y)]
  unfold kernelRun0_A
  dsimp only
  refine (View.canon_unit_zero (S := S1x1x384) (by decide) _ _).trans ?_
  exact congrArg₂ k0_pay1333 (h1_word c i arg1 harg1 arg2 harg2 arg3 harg3 arg4 harg4 arg5 harg5 arg6 harg6 arg7 harg7 arg8 harg8 arg9 harg9 arg10 harg10 arg11 harg11 arg12 harg12 x0 x1 x2 x3 x4 x5) (gains arg4 harg4 x3)

theorem out0_A_9_eq : out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5
    = k0_pay1331 (blk x0 x1 x2 x4 x5) x3 := by
  unfold out0_A_9
  rw [View.read_writes_eq_canon _ _ _ (fun y => cover0_A_9 _ _ _ _ _ _ _ _ _ _ _ _ _ _ _ _ _ _ _ _ _ _ _ _ _ _ _ _ _ _ _ _ y)]
  unfold kernelRun0_A
  dsimp only
  refine (View.canon_unit_zero (S := S384x1) (by decide) _ _).trans ?_
  refine (show _ = k0_pay1331 (kernelRun0_A.sl.r_534 (F := Ideal) c arg1 harg1 arg2 harg2 arg3 harg3 arg5 harg5 arg6 harg6 arg7 arg11 arg12 x0 x1 x2 x4 x5)
    (View.readAt (Elt Ideal) arg4.view (Rect.unit (s := S1x3072) ![0, 0] S1x3072.size inb_S1x3072_S1x3072_0_0).toLoadRect (harg4.unread x3)) from rfl).trans ?_
  exact congrArg₂ k0_pay1331 (h1_word c i arg1 harg1 arg2 harg2 arg3 harg3 arg4 harg4 arg5 harg5 arg6 harg6 arg7 harg7 arg8 harg8 arg9 harg9 arg10 harg10 arg11 harg11 arg12 harg12 x0 x1 x2 x3 x4 x5) (gains arg4 harg4 x3)

end Out

section Tail
variable (v : Vec Ideal S384x3072 .f32) (g : Vec Ideal S1x3072 .f32)

theorem pay1330_eq : k0_pay1330 v g = norm R 0x45400000#32 0x3727C5AC#32 v g := rfl
theorem pay1331_eq : k0_pay1331 v g = scales R (k0_pay1330 v g) := rfl
theorem pay1332_eq : k0_pay1332 v g = codesOf R (k0_pay1330 v g) (k0_pay1331 v g) := rfl

/-- A row of a block, normed. -/
noncomputable abbrev hrow (p : Fin 384) (j : Fin 3072) : EReal := nrm 0x45400000#32 0x3727C5AC#32 (fun q => v (ix2 p q)) (fun q => g (ix2 0 q)) j

theorem scale_apply (p : Fin 384) (j : Fin 1) : k0_pay1331 v g (ix2 p j) = rowScale (hrow v g p) := by
  rw [pay1331_eq, scales_apply]
  refine congrArg rowScale (funext fun q => ?_)
  rw [pay1330_eq, norm_apply]

theorem pay1332_apply (p : Fin 384) (j : Fin 3072) : k0_pay1332 v g (ix2 p j) = code (hrow v g p j) (rowScale (hrow v g p)) := by
  rw [pay1332_eq, codesOf_apply, scale_apply, pay1330_eq, norm_apply]

theorem pay1333_apply (z z' : Fin 1) (p : Fin 384) : k0_pay1333 v g (ix3 z z' p) = rowScale (hrow v g p) := by
  have e : k0_pay1333 v g (ix3 z z' p) = k0_pay1331 v g (ix2 p 0) := by
    unfold k0_pay1333
    generalize k0_pay1331 v g = s
    pointwise []
  rw [e, scale_apply]

end Tail

end Cert.OprojKernelIdeal
-- ==== Proof.OprojValue.lean ====
module

public import proofs.«01_k».proof.Proof.OprojPoint

/-! The output projection's kernel: its four result arrays are the reference's. -/

@[expose] public section

open Idealize Idealize.ShloMosaic Cert.Dequant Cert.Dot Cert.Norm

namespace Cert.OprojKernelIdeal
open Gen Cert.Oproj
open Cert.OprojKernelIdeal.Value Idealize.ShloMosaic.TcCoe

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0] ∧ win0_7.index t = ![t.val, 0] ∧ win0_8.index t = ![t.val, 0, 0]
    ∧ win0_9.index t = ![t.val, 0] :=
  (by decide +kernel : ∀ t : Fin grid0.N, _)

theorem flushes : ∀ t : Fin cfg0.N, (cfg0.win 6).flush t = true ∧ (cfg0.win 7).flush t = true ∧ (cfg0.win 8).flush t = true ∧ (cfg0.win 9).flush t = true :=
  (by decide +kernel : ∀ t : Fin grid0.N, _)

theorem lt5 (t : Fin cfg0.N) : t.val < 5 := lt_of_lt_of_eq t.isLt N_0

/-- The row of the arrays that row `p` of block `t` is. -/
abbrev row (t : Fin cfg0.N) (p : Fin 384) : Fin 1920 := ⟨384 * t.val + p.val, by have := lt5 t; omega⟩

theorem iblk0 (c : Dev nD) (t : Fin cfg0.N) (p : Fin 384) (k : Fin 3072) : iblk m c 0 t (ix2 p k) = m ((c : Thread nD τ).loc main_arg0) (ix2 (row t p) k) := by
  blk_ext [iblk, V, idx t]
theorem iblk1 (c : Dev nD) (t : Fin cfg0.N) (p : Fin 384) (k : Fin 1) : iblk m c 1 t (ix2 p k) = m ((c : Thread nD τ).loc main_arg1) (ix2 (row t p) k) := by
  blk_ext [iblk, V, idx t]
theorem iblk2 (c : Dev nD) (t : Fin cfg0.N) (p : Fin 384) (k : Fin 3072) : iblk m c 2 t (ix2 p k) = m ((c : Thread nD τ).loc main_arg2) (ix2 (row t p) k) := by
  blk_ext [iblk, V, idx t]
theorem iblk3 (c : Dev nD) (t : Fin cfg0.N) : iblk m c 3 t = m ((c : Thread nD τ).loc main_arg3) := by
  blk_ext! [iblk, V, idx t]
theorem iblk4 (c : Dev nD) (t : Fin cfg0.N) : iblk m c 4 t = m ((c : Thread nD τ).loc main_arg4) := by
  blk_ext! [iblk, V, idx t]
theorem iblk5 (c : Dev nD) (t : Fin cfg0.N) : iblk m c 5 t = m ((c : Thread nD τ).loc main_arg5) := by
  blk_ext! [iblk, V, idx t]

/-- A block of a point's residual stream. -/
noncomputable abbrev pblk (c : Dev nD) (t : Fin cfg0.N) : Vec Ideal S384x3072 .f32 := blk (iblk m c 0 t) (iblk m c 1 t) (iblk m c 2 t) (iblk m c 4 t) (iblk m c 5 t)

/-- `h1val` and `hnval` of the launched arrays. -/
noncomputable abbrev h1v (c : Dev nD) (r : Fin 1920) (j : Fin 3072) : EReal :=
  h1val (m ((c : Thread nD τ).loc main_arg0)) (m ((c : Thread nD τ).loc main_arg1)) (m ((c : Thread nD τ).loc main_arg2)) (m ((c : Thread nD τ).loc main_arg4)) (m ((c : Thread nD τ).loc main_arg5)) r j
noncomputable abbrev hnv (c : Dev nD) (r : Fin 1920) (j : Fin 3072) : EReal :=
  hnval (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) r j

theorem blk_at (x0 x1 x2 x4 x5) (p : Fin 384) (j : Fin 3072) : blk x0 x1 x2 x4 x5 (ix2 p j) = x2 (ix2 p j) + both x0 x1 x4 x5 rfl rfl p j := rfl

theorem blk_apply (c : Dev nD) (t : Fin cfg0.N) (p : Fin 384) (j : Fin 3072) : pblk m c t (ix2 p j) = h1v m c (row t p) j := by
  refine (blk_at ..).trans ?_
  rw [iblk2 m c t p j, iblk4, iblk5]
  unfold h1v h1val both dot
  simp only [iblk0, iblk1]

theorem hrow_eq (c : Dev nD) (t : Fin cfg0.N) (p : Fin 384) : hrow (pblk m c t) (iblk m c 3 t) p = hnv m c (row t p) := by
  funext j
  unfold hrow hnv hnval
  rw [iblk3]
  simp only [blk_apply]

/-- A row of the arrays as a row of a block. -/
theorem split (r : Fin 1920) : ∃ (t : Fin cfg0.N) (p : Fin 384), r = row t p :=
  ⟨⟨r.val / 384, lt_of_lt_of_eq (by omega) N_0.symm⟩, ⟨r.val % 384, by omega⟩, Fin.ext (by show r.val = 384 * (r.val / 384) + r.val % 384; omega)⟩

abbrev ref (c : Dev nD) (G : Vec Ideal S1920x3072 .i8 → Vec Ideal S1920x1 .f32 → Vec Ideal S1920x3072 .bf16 → Vec Ideal S1x3072 .f32 → Vec Ideal S3072x1536 .i8 → Vec Ideal S96x3072 .f32 → α) : α :=
  G (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- The residual stream. -/
theorem arr6 (c : Dev nD) : (dats m 0 c).arrAt 6 cfg0.N = ref m c Cert.OprojReferenceIdeal.Value.G6 := by
  refine funext fun (i : S1920x3072.Idx) => ?_
  obtain ⟨r, j, rfl⟩ : ∃ r j, i = ix2 r j := ⟨i 0, i 1, eq_ix2 i⟩
  obtain ⟨t, p, rfl⟩ := split r
  refine Eq.trans ?_ (Cert.OprojReferenceIdeal.G6_apply ..).symm
  have e := congrFun (blocks6 m c t (flushes t).1) (ix2 p j)
  rw [flushed6_A, out0_A_6_eq] at e
  refine Eq.trans (Eq.trans ?_ e) ?_
  · blk_ext [idx t]
  · refine Eq.trans ?_ (blk_apply m c t p j)
    blk_ext [idx t]

/-- The normed rows' codes. -/
theorem arr7 (c : Dev nD) : (dats m 0 c).arrAt 7 cfg0.N = ref m c Cert.OprojReferenceIdeal.Value.G7 := by
  refine funext fun (i : S1920x3072.Idx) => ?_
  obtain ⟨r, j, rfl⟩ : ∃ r j, i = ix2 r j := ⟨i 0, i 1, eq_ix2 i⟩
  obtain ⟨t, p, rfl⟩ := split r
  refine Eq.trans ?_ (Cert.OprojReferenceIdeal.G7_apply ..).symm
  have e := congrFun (blocks7 m c t (flushes t).2.1) (ix2 p j)
  rw [flushed7_A, out0_A_7_eq] at e
  refine Eq.trans (Eq.trans ?_ e) ?_
  · blk_ext [idx t]
  · refine Eq.trans ?_ ((pay1332_apply (pblk m c t) (iblk m c 3 t) p j).trans (by rw [hrow_eq]))
    blk_ext [idx t]

/-- Their scales, as rows. -/
theorem arr8 (c : Dev nD) : (dats m 0 c).arrAt 8 cfg0.N = ref m c Cert.OprojReferenceIdeal.Value.G8 := by
  refine funext fun (i : S5x1x384.Idx) => ?_
  obtain ⟨b, z, l, rfl⟩ : ∃ b z l, i = ix3 b z l := ⟨i 0, i 1, i 2, eq_ix3 i⟩
  refine Eq.trans ?_ (Cert.OprojReferenceIdeal.G8_apply ..).symm
  have hb : b.val < cfg0.N := lt_of_lt_of_eq b.isLt N_0.symm
  have e := congrFun (blocks8 m c ⟨b.val, hb⟩ (flushes _).2.2.1) (ix3 0 z l)
  rw [flushed8_A, out0_A_8_eq] at e
  refine Eq.trans (Eq.trans ?_ e) ?_
  · blk_ext [idx ⟨b.val, hb⟩]
  · refine Eq.trans ?_ ((pay1333_apply (pblk m c ⟨b.val, hb⟩) (iblk m c 3 ⟨b.val, hb⟩) 0 z l).trans (by rw [hrow_eq]))
    generalize k0_pay1333 (F := Ideal) _ _ = v
    rfl

/-- Their scales, as a column. -/
theorem arr9 (c : Dev nD) : (dats m 0 c).arrAt 9 cfg0.N = ref m c Cert.OprojReferenceIdeal.Value.G9 := by
  refine funext fun (i : S1920x1.Idx) => ?_
  obtain ⟨r, j, rfl⟩ : ∃ r j, i = ix2 r j := ⟨i 0, i 1, eq_ix2 i⟩
  obtain ⟨t, p, rfl⟩ := split r
  refine Eq.trans ?_ (Cert.OprojReferenceIdeal.G9_apply ..).symm
  have e := congrFun (blocks9 m c t (flushes t).2.2.2) (ix2 p j)
  rw [flushed9_A, out0_A_9_eq] at e
  refine Eq.trans (Eq.trans ?_ e) ?_
  · blk_ext [idx t]
  · refine Eq.trans ?_ ((scale_apply (pblk m c t) (iblk m c 3 t) p j).trans (by rw [hrow_eq]))
    generalize k0_pay1331 (F := Ideal) _ _ = v
    rfl

end Cert.OprojKernelIdeal
-- ==== Proof.lean ====
module

public import proofs.«01_k».proof.Defs
public import proofs.«01_k».proof.Proof.Gen.GateupKernel
public import proofs.«01_k».proof.Proof.Gen.GateupKernel.Skeleton
public import proofs.«01_k».proof.Proof.Gen.GateupKernel.Launch
public import proofs.«01_k».proof.Proof.Gen.GateupKernel.Points
public import proofs.«01_k».proof.Proof.Gen.GateupKernel.Frame
public import proofs.«01_k».proof.Proof.Gen.GateupKernelIdeal
public import proofs.«01_k».proof.Proof.Gen.GateupKernelIdeal.Skeleton
public import proofs.«01_k».proof.Proof.Gen.GateupKernelIdeal.Launch
public import proofs.«01_k».proof.Proof.Gen.GateupKernelIdeal.Points
public import proofs.«01_k».proof.Proof.Gen.GateupKernelIdeal.Frame
public import proofs.«01_k».proof.Proof.Gen.GateupReferenceIdeal
public import proofs.«01_k».proof.Proof.Gen.GateupReferenceIdeal.Skeleton
public import proofs.«01_k».proof.Proof.Gen.GateupReferenceIdeal.Launch
public import proofs.«01_k».proof.Proof.Gen.GateupReferenceIdeal.Points
public import proofs.«01_k».proof.Proof.Gen.GateupReferenceIdeal.Frame
public import proofs.«01_k».proof.Proof.Gen.GateupKernelIdeal.Value
public import proofs.«01_k».proof.Proof.Gen.GateupReferenceIdeal.Value
public import proofs.«01_k».proof.Proof.Gen.OprojKernel.Frame
public import proofs.«01_k».proof.Proof.Gen.OprojKernelIdeal.Value
public import proofs.«01_k».proof.Proof.Gen.OprojReferenceIdeal.Value
public import proofs.«01_k».proof.Proof.GateupValue
public import proofs.«01_k».proof.Proof.OprojValue
public import Idealize.ShloMosaic.Adequacy
public import Idealize.ShloMosaic.Init

@[expose] public section

noncomputable section

namespace Cert.Proof

open Idealize.ShloMosaic Idealize.SL.Sem Cert.GateupKernel

/-- The gate/up kernel and its reference end with equal results: each runs, and the kernel's arrays are the reference's. -/
theorem algebraic : Cert.algebraic_GateupKernelIdeal_GateupReferenceIdeal (hGateupKernelIdeal := Cert.GateupKernelIdeal.Gen.facts)
    (hGateupReferenceIdeal := Cert.GateupReferenceIdeal.Gen.facts) := by
  intro m ρ m' ρ' _ hag
  refine ⟨fun c => Cert.GateupKernelIdeal.Value.G5 m c, fun c => Cert.GateupKernelIdeal.Value.G6 m c, Cert.GateupKernelIdeal.Value.run m ρ,
    (θ_run _ _ _).mono (fun r h c => ?_) (Cert.GateupReferenceIdeal.Value.run m' ρ')⟩
  obtain ⟨e0, e1, a⟩ := h c
  obtain ⟨g0, g1, g2, g3⟩ := hag c
  refine ⟨e0.trans ?_, e1.trans ?_, a⟩
  · rw [g0, g1, g2, g3]; exact (Cert.GateupKernelIdeal.G5_eq m c).symm
  · rw [g0, g1, g2, g3]; exact (Cert.GateupKernelIdeal.G6_eq m c).symm

/-- The output projection's kernel and its reference end with equal results: each runs, and the kernel's arrays are the reference's. -/
theorem algebraicO : Cert.algebraic_OprojKernelIdeal_OprojReferenceIdeal (hOprojKernelIdeal := Cert.OprojKernelIdeal.Gen.facts)
    (hOprojReferenceIdeal := Cert.OprojReferenceIdeal.Gen.facts) := by
  intro m ρ m' ρ' _ hag
  refine ⟨fun c => (Cert.OprojKernelIdeal.Gen.dats m 0 c).arrAt 6 Cert.OprojKernelIdeal.cfg0.N, fun c => (Cert.OprojKernelIdeal.Gen.dats m 0 c).arrAt 7 Cert.OprojKernelIdeal.cfg0.N,
    fun c => (Cert.OprojKernelIdeal.Gen.dats m 0 c).arrAt 8 Cert.OprojKernelIdeal.cfg0.N, fun c => (Cert.OprojKernelIdeal.Gen.dats m 0 c).arrAt 9 Cert.OprojKernelIdeal.cfg0.N,
    Cert.OprojKernelIdeal.Value.run_blocks m ρ, (θ_run _ _ _).mono (fun r h c => ?_) (Cert.OprojReferenceIdeal.Value.run m' ρ')⟩
  obtain ⟨e0, e1, e2, e3, a⟩ := h c
  obtain ⟨g0, g1, g2, g3, g4, g5⟩ := hag c
  refine ⟨e0.trans ?_, e1.trans ?_, e2.trans ?_, e3.trans ?_, a⟩
  · rw [g0, g1, g2, g3, g4, g5]; exact (Cert.OprojKernelIdeal.arr6 m c).symm
  · rw [g0, g1, g2, g3, g4, g5]; exact (Cert.OprojKernelIdeal.arr7 m c).symm
  · rw [g0, g1, g2, g3, g4, g5]; exact (Cert.OprojKernelIdeal.arr8 m c).symm
  · rw [g0, g1, g2, g3, g4, g5]; exact (Cert.OprojKernelIdeal.arr9 m c).symm

theorem claim : Cert.Claim := ⟨Cert.GateupKernel.Gen.facts, Cert.GateupKernelIdeal.Gen.facts, Cert.GateupReferenceIdeal.Gen.facts,
  Cert.OprojKernel.Gen.facts, Cert.OprojKernelIdeal.Gen.facts, Cert.OprojReferenceIdeal.Gen.facts,
  fun m ρ _ => Cert.GateupKernel.Gen.frame m ρ, fun m ρ _ => Cert.GateupKernelIdeal.Gen.frame m ρ, fun m ρ _ => Cert.GateupReferenceIdeal.Gen.frame m ρ,
  fun m ρ _ => Cert.OprojKernel.Gen.frame m ρ, fun m ρ _ => Cert.OprojKernelIdeal.Gen.frame m ρ, fun m ρ _ => Cert.OprojReferenceIdeal.Gen.frame m ρ,
  trivial, algebraic, trivial, algebraicO⟩

end Cert.Proof

end
